-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero_norms [hPre_nonzero_norms : Cert.Pre_nonzero_norms.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_norms [hPre_nonzero_norms : Cert.Pre_nonzero_norms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nonzero_norms [hKernelIdeal : Cert.KernelIdeal.Facts] [hPre_nonzero_norms : Cert.Pre_nonzero_norms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_norms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nonzero_norms [hReferenceIdeal : Cert.ReferenceIdeal.Facts] [hPre_nonzero_norms : Cert.Pre_nonzero_norms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_norms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_nonzero_norms [hKernelIdeal : Cert.KernelIdeal.Facts] [hReferenceIdeal : Cert.ReferenceIdeal.Facts] [hPre_nonzero_norms : Cert.Pre_nonzero_norms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_norms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_nonzero_norms : Cert.Pre_nonzero_norms.Facts),
    quiescent_Kernel (hKernel := hKernel)
    ∧ quiescent_KernelIdeal (hKernelIdeal := hKernelIdeal)
    ∧ quiescent_KernelIdeal_pre_nonzero_norms (hKernelIdeal := hKernelIdeal) (hPre_nonzero_norms := hPre_nonzero_norms)
    ∧ quiescent_ReferenceIdeal (hReferenceIdeal := hReferenceIdeal)
    ∧ quiescent_ReferenceIdeal_pre_nonzero_norms (hReferenceIdeal := hReferenceIdeal) (hPre_nonzero_norms := hPre_nonzero_norms)
    ∧ preserves_Kernel_KernelIdeal
    ∧ algebraic_KernelIdeal_ReferenceIdeal_pre_nonzero_norms (hKernelIdeal := hKernelIdeal) (hReferenceIdeal := hReferenceIdeal) (hPre_nonzero_norms := hPre_nonzero_norms)
-- ==== Pre_nonzero_norms.lean ====
abbrev S16384x256 : Shape := ⟨2, ![16384, 256]⟩
abbrev S1024x256 : Shape := ⟨2, ![1024, 256]⟩
abbrev S1024 : Shape := ⟨1, ![1024]⟩
abbrev S_ : Shape := ⟨0, ![]⟩
abbrev S256 : Shape := ⟨1, ![256]⟩

class Facts : Prop where
  reducesTo_S16384x256_S256_d0 : S16384x256.ReducesTo [0] S256
  h_S_ : 0 < S_.numel
  bcast_S_S256 : S_.BroadcastsInDim S256 (![] : Fin 0 → Fin S256.rank)
  reducesTo_S1024x256_S1024_d1 : S1024x256.ReducesTo [1] S1024
  bcast_S_S1024 : S_.BroadcastsInDim S1024 (![] : Fin 0 → Fin S1024.rank)
  reducesTo_S256_S_d0 : S256.ReducesTo [0] S_
  reducesTo_S1024_S_d0 : S1024.ReducesTo [0] S_

variable [Facts]

def fn {F : FTy → Type} [FloatOps F] (main_arg0 : FVec F S16384x256 .f32) (main_arg1 : FVec F S1024x256 .f32) (main_arg2 : FVec F S1024 .f32) (main_arg3 : IVec S_ 32) : IVec S_ 1 :=
  let main_v0 : FVec F S16384x256 .f32 := mulf main_arg0 main_arg0
  let main_cst : FVec F S_ .f32 := constant S_ .f32 0x00000000#32
  let main_v1 : FVec F S256 .f32 := (fun x v => Host.reduceAdd x v reducesTo_S16384x256_S256_d0 h_S_) main_v0 main_cst
  let main_cst_0 : FVec F S_ .f32 := constant S_ .f32 0x00000000#32
  let main_v2 : FVec F S256 .f32 := broadcastInDim S256 ![] bcast_S_S256 main_cst_0
  let main_v3 : IVec S256 1 := cmpf .ogt main_v1 main_v2
  let main_v4 : FVec F S1024x256 .f32 := mulf main_arg1 main_arg1
  let main_cst_1 : FVec F S_ .f32 := constant S_ .f32 0x00000000#32
  let main_v5 : FVec F S1024 .f32 := (fun x v => Host.reduceAdd x v reducesTo_S1024x256_S1024_d1 h_S_) main_v4 main_cst_1
  let main_cst_2 : FVec F S_ .f32 := constant S_ .f32 0x00000000#32
  let main_v6 : FVec F S1024 .f32 := broadcastInDim S1024 ![] bcast_S_S1024 main_cst_2
  let main_v7 : IVec S1024 1 := cmpf .ogt main_v5 main_v6
  let main_c : IVec S_ 1 := constantI S_ 1 1#1
  let main_v8 : IVec S_ 1 := (fun x v => Host.reduce IntOp.andi x v reducesTo_S256_S_d0 h_S_) main_v3 main_c
  let main_c_3 : IVec S_ 1 := constantI S_ 1 1#1
  let main_v9 : IVec S_ 1 := (fun x v => Host.reduce IntOp.andi x v reducesTo_S1024_S_d0 h_S_) main_v7 main_c_3
  let main_v10 : IVec S_ 1 := andi main_v8 main_v9
  main_v10
-- ==== Kernel.lean ====
abbrev S16384x256 : Shape := ⟨2, ![16384, 256]⟩
abbrev S1024x256 : Shape := ⟨2, ![1024, 256]⟩
abbrev S1024 : Shape := ⟨1, ![1024]⟩
abbrev S_ : Shape := ⟨0, ![]⟩
abbrev S16384x1024 : Shape := ⟨2, ![16384, 1024]⟩
abbrev S2048x1024 : Shape := ⟨2, ![2048, 1024]⟩
abbrev S1x256 : Shape := ⟨2, ![1, 256]⟩
abbrev S8 : Shape := ⟨1, ![8]⟩
abbrev S1 : Shape := ⟨1, ![1]⟩
abbrev S2048x256 : Shape := ⟨2, ![2048, 256]⟩
abbrev S1024x1 : Shape := ⟨2, ![1024, 1]⟩
abbrev S256 : Shape := ⟨1, ![256]⟩
abbrev S2048 : Shape := ⟨1, ![2048]⟩
abbrev S2048x1 : Shape := ⟨2, ![2048, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S_, .i32⟩
  | .hbm, ⟨4, _⟩ => ⟨S16384x1024, .f32⟩
  | .local _ .vmem, ⟨0, _⟩ => ⟨S1024x256, .f32⟩
  | .local _ .vmem, ⟨1, _⟩ => ⟨S2048x1024, .f32⟩
  | .local _ .vmem, ⟨2, _⟩ => ⟨S2048x1024, .f32⟩
  | .local _ .vmem, ⟨3, _⟩ => ⟨S16384x256, .f32⟩
  | .local _ .vmem, ⟨4, _⟩ => ⟨S1024x256, .bf16⟩
  | .local _ .vmem, ⟨5, _⟩ => ⟨S1024x256, .f32⟩
  | .local _ .vmem, ⟨6, _⟩ => ⟨S1x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  ![arg0.toNat]
def k0_off2 (i : grid0.Coords) : Fin 2 → Nat :=
  let arg0 : BitVec 32 := BitVec.ofNat 32 (i 0).val
  let c2048_i32_4 : BitVec 32 := 2048#32
  let v10 : BitVec 32 := Scalar.muli arg0 c2048_i32_4
  let c0_i32_5 : BitVec 32 := 0#32
  ![v10.toNat, 0]
def k0_off3 (i : grid0.Coords) : Fin 2 → Nat :=
  let arg0 : BitVec 32 := BitVec.ofNat 32 (i 0).val
  let c2048_i32_7 : BitVec 32 := 2048#32
  let v15 : BitVec 32 := Scalar.muli arg0 c2048_i32_7
  let v16 : Index := Scalar.indexCast v15
  let c0 : Index := 0#32
  ![v16.toNat, 0]
def k0_cond6 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_off4 (i : grid0.Coords) : Fin 2 → Nat :=
  let arg0 : BitVec 32 := BitVec.ofNat 32 (i 0).val
  let c8_i32_4 : BitVec 32 := 8#32
  let v9 : BitVec 32 := Scalar.subi arg0 c8_i32_4
  let c2048_i32 : BitVec 32 := 2048#32
  let v10 : BitVec 32 := Scalar.muli v9 c2048_i32
  let v11 : Index := Scalar.indexCast v10
  let c0 : Index := 0#32
  ![v11.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x256 : Shape := ⟨2, ![16384, 256]⟩
abbrev S1024x256 : Shape := ⟨2, ![1024, 256]⟩
abbrev S1024 : Shape := ⟨1, ![1024]⟩
abbrev S_ : Shape := ⟨0, ![]⟩
abbrev S256 : Shape := ⟨1, ![256]⟩
abbrev S1x256 : Shape := ⟨2, ![1, 256]⟩
abbrev S256x1024 : Shape := ⟨2, ![256, 1024]⟩
abbrev S16384x1024 : Shape := ⟨2, ![16384, 1024]⟩
abbrev S1x1024 : Shape := ⟨2, ![1, 1024]⟩
abbrev S16384 : Shape := ⟨1, ![16384]⟩
abbrev S16384x1 : Shape := ⟨2, ![16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S_, .i32⟩
  | .hbm, ⟨4, _⟩ => ⟨S16384x256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S1x256, .f32⟩
  | .hbm, ⟨9, _⟩ => ⟨S16384x256, .f32⟩
  | .hbm, ⟨10, _⟩ => ⟨S16384x256, .f32⟩
  | .hbm, ⟨11, _⟩ => ⟨S256x1024, .f32⟩
  | .hbm, ⟨12, _⟩ => ⟨S16384x1024, .f32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S16384x1024, .f32⟩
  | .hbm, ⟨33, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Proof.KernelIdealSlots.lean ====
/-
  The eight slots of the kernel's copy of `all_ts` in VMEM: the rectangles of the copies, the semaphore cells, and the
  facts about them that the run of the body uses.
-/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! ## The operands -/

/-- `all_ts`, left in HBM. -/
abbrev hbM : Memref sig .tc .hbm S16384x256 .f32 := Memref.whole main_arg0
/-- The copy of `all_ts` in VMEM. -/
abbrev scX : Memref sig .tc .vmem S16384x256 .f32 := Memref.whole cc0_scratch0
/-- The normalised weights, rounded. -/
abbrev scP : Memref sig .tc .vmem S1024x256 .bf16 := Memref.whole cc0_scratch1
/-- The weights divided by their row norms. -/
abbrev scR : Memref sig .tc .vmem S1024x256 .f32 := Memref.whole cc0_scratch2
/-- The sums of squares of the columns so far. -/
abbrev scA : Memref sig .tc .vmem S1x256 .f32 := Memref.whole cc0_scratch3

/-- Rows `[o, o + 2048)` lie in the array. -/
abbrev RowsIn (o : ℕ) : Prop := ∀ a, (![o, 0] : Fin 2 → ℕ) a + S2048x256.size a ≤ S16384x256.size a
/-- Cell `j` lies in the semaphore array. -/
abbrev CellIn (j : ℕ) : Prop := ∀ a, (![j] : Fin 1 → ℕ) a + S1.size a ≤ S8.size a

/-- Rows `[o, o + 2048)` of the copy in VMEM. -/
abbrev rowsX (o : ℕ) (h : RowsIn o) : Memref sig .tc .vmem S2048x256 .f32 :=
  scX.slice (Rect.unit (s := S16384x256) ![o, 0] S2048x256.size h) (fun _ => rfl)
/-- Rows `[o, o + 2048)` of `all_ts`. -/
abbrev rowsH (o : ℕ) (h : RowsIn o) : Memref sig .tc .hbm S2048x256 .f32 :=
  hbM.slice (Rect.unit (s := S16384x256) ![o, 0] S2048x256.size h) (fun _ => rfl)
/-- Cell `j` of the kernel's semaphore array. -/
abbrev cellM (j : ℕ) (h : CellIn j) : SemLoc sig :=
  SemLoc.dma (((cc0_scratch4).slice (Rect.unit (s := S8) ![j] S1.size h)).squeeze S_ squeezes_S1_S_).sem

/-- Each block of rows lies within the array. -/
theorem rows_inb : ∀ k : Fin 8, RowsIn (2048 * k.val) := by decide +kernel
/-- Each cell lies within the eight. -/
theorem cell_inb : ∀ k : Fin 8, CellIn k.val := by decide +kernel

/-- Slot `k` in VMEM, block `k` in HBM, and the cell of the copy between them. -/
abbrev slotX (k : Fin 8) : Memref sig .tc .vmem S2048x256 .f32 := rowsX (2048 * k.val) (rows_inb k)
abbrev slotH (k : Fin 8) : Memref sig .tc .hbm S2048x256 .f32 := rowsH (2048 * k.val) (rows_inb k)
abbrev slotC (k : Fin 8) : SemLoc sig := cellM k.val (cell_inb k)

abbrev osem0 : Fin 8 → SemLoc sig := fun j => (![SemLoc.dma 3, SemLoc.dma 4, SemLoc.dma 5, SemLoc.dma 6, SemLoc.dma 7, SemLoc.dma 8, SemLoc.dma 9, SemLoc.dma 10] : Fin 8 → SemLoc sig) j
/-- The listed semaphores are the cells of the eight copies. -/
theorem osem0_eq : ∀ k : Fin 8, osem0 k = slotC k := by decide +kernel
/-- The listed semaphores are distinct and are no window's. -/
theorem ownSemFacts0 : Pipeline.OwnSemFacts spec0 osem0 := by decide

section
variable (c : Dev nD)

/-- Slot `k` held at contents `f` of the copy. -/
abbrev heldX (k : Fin 8) (f : Buf (Elt F) (scX.view.loc (c : Thread nD τ))) : sProp 𝕄 :=
  (slotX k).view.loc (c : Thread nD τ) ↦[(slotX k).view.set]{fullShare} f
/-- Block `k` of `all_ts` held at contents `f`. -/
abbrev heldH (k : Fin 8) (f : Buf (Elt F) (hbM.view.loc (c : Thread nD τ))) : sProp 𝕄 :=
  (slotH k).view.loc (c : Thread nD τ) ↦[(slotH k).view.set]{fullShare} f

/-- The elements of rows `[2048 k, 2048 k + 2048)`. -/
def rowSet (k : Fin 8) : Finset S16384x256.Idx := (Rect.unit (s := S16384x256) ![2048 * k.val, 0] S2048x256.size (rows_inb k)).set

/-- The scratch's slice for a block covers the block's rows. -/
theorem rowsX_set (k : Fin 8) : (slotX k).view.set = rowSet k :=
  View.set_slice_whole _ _
/-- The slice of `all_ts` for a block covers the block's rows. -/
theorem rowsH_set (k : Fin 8) : (slotH k).view.set = rowSet k :=
  View.set_slice_whole _ _

/-- The row blocks share no element, -/
theorem rows_disjoint (b b' : Fin 8) (h : b ≠ b') :
    Disjoint (rowSet b) (rowSet b') :=
  Ring.lead_disjoint (s := S16384x256) (0 : Fin 2) 2048 (fun k => ![2048 * k.val, 0]) S2048x256.size rows_inb (fun _ => rfl) rfl b b' h
/-- and cover the array. -/
theorem rows_cover : Finset.univ.biUnion rowSet = Finset.univ :=
  Ring.lead_cover (s := S16384x256) (0 : Fin 2) 2048 (fun k => ![2048 * k.val, 0]) S2048x256.size rows_inb (fun _ => rfl)
    (by decide) rfl (by decide) rfl

/-- The copy held whole is held slot by slot, -/
theorem whole_slots (f : Buf (Elt F) (scX.view.loc (c : Thread nD τ))) :
    (scX.view.loc (c : Thread nD τ) ↦{fullShare} f : sProp 𝕄) = bigSep Finset.univ fun k => heldX c k f := by
  rw [Ring.pointsTo_blocks (ℓ := scX.view.loc (c : Thread nD τ)) rowSet rows_disjoint rows_cover]
  exact bigSep_congr fun k _ => by rw [← rowsX_set]
/-- and `all_ts` held whole is held block by block. -/
theorem whole_blocks (f : Buf (Elt F) (hbM.view.loc (c : Thread nD τ))) :
    (hbM.view.loc (c : Thread nD τ) ↦{fullShare} f : sProp 𝕄) = bigSep Finset.univ fun k => heldH c k f := by
  rw [Ring.pointsTo_blocks (ℓ := hbM.view.loc (c : Thread nD τ)) rowSet rows_disjoint rows_cover]
  exact bigSep_congr fun k _ => by rw [← rowsH_set]

/-- The contents of `all_ts` as contents of the copy: the two buffers have one shape and one element type. -/
def asX (f : Buf (Elt F) (hbM.view.loc (c : Thread nD τ))) : Buf (Elt F) (scX.view.loc (c : Thread nD τ)) := f

/-- The contents of `all_ts`, taken as the scratch's, read the same. -/
theorem read_asX (f : Buf (Elt F) (hbM.view.loc (c : Thread nD τ))) : scX.view.read (Elt F) (asX c f) = hbM.view.read (Elt F) f := rfl

/-- The rows `[o, o + 2048)` of `all_ts`, as the block of values that a load of them gives. -/
abbrev rowsOf (o : ℕ) (h : RowsIn o)
    (f : Buf (Elt F) (hbM.view.loc (c : Thread nD τ))) : Vec F S2048x256 .f32 := (rowsH o h).view.read (Elt F) f

/-- Rows that a copy has filled hold, element by element, what `all_ts` holds there. -/
theorem landed_apply (o : ℕ) (h : RowsIn o) (f : Buf (Elt F) (hbM.view.loc (c : Thread nD τ))) (g : Buf (Elt F) (scX.view.loc (c : Thread nD τ)))
    (w : Vec F S2048x256 .f32) (hw : w = rowsOf c o h f) :
    ∀ i ∈ (rowsX o h).view.set, (rowsX o h).view.writes (Elt F) g [⟨Rect.whole S2048x256, w⟩] i = asX c f i := by
  intro i hi
  obtain ⟨x, -, rfl⟩ := Finset.mem_map.mp hi
  subst hw
  have e : (rowsX o h).view.emb x = ((rowsX o h).view.slice (Rect.whole S2048x256)).emb x :=
    congrArg (rowsX o h).view.emb (Rect.emb_whole_apply S2048x256 x).symm
  rw [View.writes_singleton, e, View.write_emb_of_mem _ _ (Finset.mem_univ x), ← e]
  rfl

/-- The same as an equation between the two ways to hold the rows. -/
theorem landed_eq (o : ℕ) (h : RowsIn o) (f : Buf (Elt F) (hbM.view.loc (c : Thread nD τ))) (g : Buf (Elt F) (scX.view.loc (c : Thread nD τ)))
    (w : Vec F S2048x256 .f32) (hw : w = rowsOf c o h f) :
    ((rowsX o h).view.loc (c : Thread nD τ) ↦[(rowsX o h).view.set]{fullShare} (rowsX o h).view.writes (Elt F) g [⟨Rect.whole S2048x256, w⟩] : sProp 𝕄)
      = ((rowsX o h).view.loc (c : Thread nD τ) ↦[(rowsX o h).view.set]{fullShare} asX c f) :=
  pointsTo_congr (landed_apply c o h f g w hw)

/-- A load of the rows out of the copy reads the rows of `all_ts`, whatever the copy holds elsewhere. -/
theorem load_rows (o : ℕ) (h : RowsIn o) (off : Fin 2 → ℕ) (hoff) (e : off = ![o, 0]) (f : Buf (Elt F) (hbM.view.loc (c : Thread nD τ)))
    (q : Buf (Elt F) (scX.view.loc (c : Thread nD τ))) (hq : ∀ i ∈ (rowsX o h).view.set, q i = asX c f i) :
    View.readAt (Elt F) scX.view (Rect.unit (s := S16384x256) off S2048x256.size hoff).toLoadRect q = rowsOf c o h f := by
  subst e
  exact (View.read_congr (v := (rowsX o h).view) (f := q) (g := asX c f) hq)

/-- A slot that is full: the rows of the copy and of `all_ts` in hand, the cell at zero. -/
abbrev fullRows (o j : ℕ) (h : RowsIn o) (h' : CellIn j) (f : Buf (Elt F) (hbM.view.loc (c : Thread nD τ))) : sProp 𝕄 :=
  iprop(((rowsX o h).view.loc (c : Thread nD τ) ↦[(rowsX o h).view.set]{fullShare} asX c f)
    ∗ ((rowsH o h).view.loc (c : Thread nD τ) ↦[(rowsH o h).view.set]{fullShare} f) ∗ semVal ((c : Thread nD τ), cellM j h') 0)

/-- A slot whose copy is under way: it will deliver the filled rows and the rows of `all_ts`. -/
abbrev flyRows (o j : ℕ) (h : RowsIn o) (h' : CellIn j) (f : Buf (Elt F) (hbM.view.loc (c : Thread nD τ))) : sProp 𝕄 :=
  Transfers.Flight (countersEmb (U := Pipeline.UD sig nD τ)) (c : Thread nD τ) (cellM j h') () 65536
    iprop(((rowsX o h).view.loc (c : Thread nD τ) ↦[(rowsX o h).view.set]{fullShare} asX c f)
      ∗ ((rowsH o h).view.loc (c : Thread nD τ) ↦[(rowsH o h).view.set]{fullShare} f))

/-- A copy under way, whatever its rows held before, is one of the last kind. -/
theorem fly_intro (o j : ℕ) (h : RowsIn o) (h' : CellIn j) (f : Buf (Elt F) (hbM.view.loc (c : Thread nD τ))) (g : Buf (Elt F) (scX.view.loc (c : Thread nD τ)))
    (w : Vec F S2048x256 .f32) (hw : w = rowsOf c o h f) :
    (Transfers.Flight (countersEmb (U := Pipeline.UD sig nD τ)) (c : Thread nD τ) (cellM j h') () 65536
      iprop(((rowsX o h).view.loc (c : Thread nD τ) ↦[(rowsX o h).view.set]{fullShare} (rowsX o h).view.writes (Elt F) g [⟨Rect.whole S2048x256, w⟩])
        ∗ ((rowsH o h).view.loc (c : Thread nD τ) ↦[(rowsH o h).view.set]{fullShare} f)) : sProp 𝕄)
      ⊢ flyRows c o j h h' f := by
  rw [landed_eq c o h f g w hw]

end

/-- The rows that a point of the second phase loads. -/
theorem off4_eq' : ∀ i : grid0.Coords, k0_cond6 i = 1#1 → k0_off4 i = ![2048 * ((i 0).val - 8), 0] := by decide +kernel

end Cert.KernelIdeal.Hand

end
-- ==== Proof.KernelIdealRun.lean ====
/-
  The body of the kernel run at each kind of grid point.
-/
module

public import proofs.«01_k».proof.Proof.KernelIdealSlots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (c : Dev nD)

/-- What point 0 starts from, of one slot: slot, block and cell. -/
abbrev freeRows (o j : ℕ) (h : RowsIn o) (h' : CellIn j)
    (g : Buf (Elt F) (scX.view.loc (c : Thread nD τ))) (f : Buf (Elt F) (hbM.view.loc (c : Thread nD τ))) : sProp 𝕄 :=
  iprop(((rowsX o h).view.loc (c : Thread nD τ) ↦[(rowsX o h).view.set]{fullShare} g)
    ∗ ((rowsH o h).view.loc (c : Thread nD τ) ↦[(rowsH o h).view.set]{fullShare} f) ∗ semVal ((c : Thread nD τ), cellM j h') 0)

/-- The body at the grid point `i`, on the two staging buffers it is handed. -/
abbrev bodyOn (i : grid0.Coords) (arg2 : Memref sig .tc .vmem S1024x256 .f32) (harg2 : arg2.IsWhole)
    (arg3 : Memref sig .tc .vmem S2048x1024 .f32) (harg3 : arg3.IsWhole) : Prog (TpuEff nD τ sig (Elt F) Λ₀ .tc) PUnit :=
  cc0__fused_body i hbM (Memref.isWhole_whole _) arg2 harg2 arg3 harg3 scX (Memref.isWhole_whole _) scP (Memref.isWhole_whole _)
    scR (Memref.isWhole_whole _) scA (Memref.isWhole_whole _) cc0_scratch4

variable (i : grid0.Coords)
  (arg2 : Memref sig .tc .vmem S1024x256 .f32) (harg2 : arg2.IsWhole) (arg3 : Memref sig .tc .vmem S2048x1024 .f32) (harg3 : arg3.IsWhole)
  (f : Buf (Elt F) (hbM.view.loc (c : Thread nD τ)))

/-- The program's names for the slot of point `i`, when the point is at row `o` and cell `j`. -/
theorem canonC {i : grid0.Coords} {j : ℕ} (h2 : k0_cond2 i = 1#1) (h' : CellIn j) (e : k0_off1 i = ![j]) :
    (cc0_scratch4.slice (Rect.unit (s := S8) (k0_off1 i) S1.size (k0_off1_inb i h2))).squeeze S_ squeezes_S1_S_
      = (cc0_scratch4.slice (Rect.unit (s := S8) ![j] S1.size h')).squeeze S_ squeezes_S1_S_ :=
  congrArg (fun A : DmaSems sig S1 => A.squeeze S_ squeezes_S1_S_) (SemArray.slice_unit_congr _ e _ _)
/-- A point's slice of the scratch, at the offset it computes, is the slice at the plain offset. -/
theorem canonX {i : grid0.Coords} {o : ℕ} (h2 : k0_cond2 i = 1#1) (h : RowsIn o) (e : k0_off2 i = ![o, 0]) :
    scX.slice (Rect.unit (s := S16384x256) (k0_off2 i) S2048x256.size (k0_off2_inb i h2)) (fun _ => rfl) = rowsX o h :=
  Memref.slice_unit_congr _ e _ _ _ _
/-- A point's slice of `all_ts`, at the offset it computes, is the slice at the plain offset. -/
theorem canonH {i : grid0.Coords} {o : ℕ} (h2 : k0_cond2 i = 1#1) (h : RowsIn o) (e : k0_off2 i = ![o, 0]) :
    hbM.slice (Rect.unit (s := S16384x256) (k0_off2 i) S2048x256.size (k0_off2_inb i h2)) (fun _ => rfl) = rowsH o h :=
  Memref.slice_unit_congr _ e _ _ _ _

/-- A buffer stored whole reads what was stored. -/
theorem read_stored {s : Shape} {e : EltTy} {M : Memref sig .tc .vmem s e} (g : M.view.ty.Contents (Elt F)) (off : Fin s.rank → ℕ) (h)
    (hoff : off = fun _ => 0) (v : Vec F s e) :
    M.view.read (Elt F) (M.view.writes (Elt F) g [⟨Rect.unit off s.size h, v⟩]) = v := by
  subst hoff
  rw [View.writes_singleton]
  refine funext fun x => ?_
  have e := View.read_slice_write_emb (v := M.view) (Rect.unit (fun _ => 0) s.size h) g v (Finset.mem_univ x)
  rwa [show (Rect.unit (fun _ => 0) s.size h).emb x = x from Rect.emb_whole_apply s x] at e

/-- A buffer at contents that read `v` is owned at `v`. -/
theorem owns_of_read {s : Shape} {e : EltTy} {M : Memref sig .tc .vmem s e} (g : M.view.ty.Contents (Elt F)) (v : Vec F s e)
    (hv : M.view.read (Elt F) g = v) :
    (M.view.loc (c : Thread nD τ) ↦[M.view.set]{fullShare} g : sProp 𝕄)
      ⊢ iprop(∃ q, ⌜M.view.read (Elt F) q = v⌝ ∗ M.view.loc (c : Thread nD τ) ↦[M.view.set]{fullShare} q) := by
  iintro H
  iexists _; isplitr; swap; · iexact H
  ipureintro; exact hv

/-- A load of a buffer whole reads what it holds. -/
theorem load_whole {s : Shape} {e : EltTy} {M : Memref sig .tc .vmem s e} (g : M.view.ty.Contents (Elt F)) (off : Fin s.rank → ℕ) (h)
    (hoff : off = fun _ => 0) : View.readAt (Elt F) M.view (Rect.unit off s.size h).toLoadRect g = M.view.read (Elt F) g := by
  subst hoff
  exact funext fun x => congrArg (M.view.read (Elt F) g) (Rect.emb_whole_apply s x)

/-- Point 0: the eight copies are started, the weights divided by their row norms, the first block waited for and its
    column sums of squares stored. -/
theorem run_first (W : Waits sig Unit) (K : PUnit → sProp 𝕄) (hi : (i 0).val = 0) (g : Buf (Elt F) (scX.view.loc (c : Thread nD τ))) (w : Vec F S1024x256 .f32) :
    iprop(freeRows c 0 0 inb_S16384x256_S2048x256_0_0 inb_S8_S1_0 g f
        ∗ freeRows c 2048 1 inb_S16384x256_S2048x256_2048_0 inb_S8_S1_1 g f
        ∗ freeRows c 4096 2 inb_S16384x256_S2048x256_4096_0 inb_S8_S1_2 g f
        ∗ freeRows c 6144 3 inb_S16384x256_S2048x256_6144_0 inb_S8_S1_3 g f
        ∗ freeRows c 8192 4 inb_S16384x256_S2048x256_8192_0 inb_S8_S1_4 g f
        ∗ freeRows c 10240 5 inb_S16384x256_S2048x256_10240_0 inb_S8_S1_5 g f
        ∗ freeRows c 12288 6 inb_S16384x256_S2048x256_12288_0 inb_S8_S1_6 g f
        ∗ freeRows c 14336 7 inb_S16384x256_S2048x256_14336_0 inb_S8_S1_7 g f
        ∗ owns (c : Thread nD τ) arg2 fullShare w
        ∗ (∃ d, owns (c : Thread nD τ) scR fullShare d) ∗ (∃ d, owns (c : Thread nD τ) scA fullShare d)
        ∗ owes (c : Thread nD τ) 0 W
        ∗ (iprop(fullRows c 0 0 inb_S16384x256_S2048x256_0_0 inb_S8_S1_0 f
            ∗ flyRows c 2048 1 inb_S16384x256_S2048x256_2048_0 inb_S8_S1_1 f
            ∗ flyRows c 4096 2 inb_S16384x256_S2048x256_4096_0 inb_S8_S1_2 f
            ∗ flyRows c 6144 3 inb_S16384x256_S2048x256_6144_0 inb_S8_S1_3 f
            ∗ flyRows c 8192 4 inb_S16384x256_S2048x256_8192_0 inb_S8_S1_4 f
            ∗ flyRows c 10240 5 inb_S16384x256_S2048x256_10240_0 inb_S8_S1_5 f
            ∗ flyRows c 12288 6 inb_S16384x256_S2048x256_12288_0 inb_S8_S1_6 f
            ∗ flyRows c 14336 7 inb_S16384x256_S2048x256_14336_0 inb_S8_S1_7 f
            ∗ owns (c : Thread nD τ) arg2 fullShare w ∗ owns (c : Thread nD τ) scR fullShare (k0_pay1 w)
            ∗ owns (c : Thread nD τ) scA fullShare (k0_pay3 (rowsOf c 0 inb_S16384x256_S2048x256_0_0 f))
            ∗ ∃ W', owes (c : Thread nD τ) 0 W') -∗ K ⟨⟩))
      ⊢ wp frame (wpE (defs₀ (F := F)) Variants.none c none) Set.univ (bodyOn i arg2 harg2 arg3 harg3) K := by
  have h1 : Scalar.cmpi .ne (Scalar.extui (Scalar.cmpi .eq (BitVec.ofNat 32 (i 0).val) 0#32) : BitVec 32) 0#32 = 1#1 := by rw [hi]; decide
  have h2 : k0_cond2 i = 1#1 := by unfold k0_cond2; rw [hi]; decide
  have h4 : ¬ Scalar.cmpi .ne (Scalar.extui (Scalar.cmpi .sgt (BitVec.ofNat 32 (i 0).val) 0#32) : BitVec 32) 0#32 = 1#1 := by rw [hi]; decide
  have h5 : ¬ Scalar.cmpi .ne (Scalar.extui (Scalar.cmpi .eq (BitVec.ofNat 32 (i 0).val) 7#32) : BitVec 32) 0#32 = 1#1 := by rw [hi]; decide
  have h6 : ¬ k0_cond6 i = 1#1 := by unfold k0_cond6; rw [hi]; decide
  have e1 : k0_off1 i = ![0] := by rw [k0_off1_eq, hi]
  have e2 : k0_off2 i = ![0, 0] := by rw [k0_off2_eq, hi]
  have e3 : k0_off3 i = ![0, 0] := by rw [k0_off3_eq, hi]
  unfold bodyOn
  rw [cc0__fused_body_eq_skeleton]; unfold cc0__fused_body_skel
  have hcanonC := canonC h2 inb_S8_S1_0 e1
  have hcanonX := canonX h2 inb_S16384x256_S2048x256_0_0 e2
  have hcanonH := canonH h2 inb_S16384x256_S2048x256_0_0 e2
  unfold freeRows owns
  iintro ⟨⟨X0, B0, C0⟩, ⟨X1, B1, C1⟩, ⟨X2, B2, C2⟩, ⟨X3, B3, C3⟩, ⟨X4, B4, C4⟩, ⟨X5, B5, C5⟩, ⟨X6, B6, C6⟩, ⟨X7, B7, C7⟩, ⟨%fw, %hw, HW⟩, ⟨%dr, %fr, -, HR⟩, ⟨%da, %fa, -, HA⟩, HO, HK⟩
  sl_exec
  sl_step
  iapply HK
  isplitl [X0 B0 C0]
  · unfold fullRows
    isplitl [X0]; · iapply (BIBase.Entails.of_eq (landed_eq c 0 inb_S16384x256_S2048x256_0_0 f _ _ rfl)); iexact X0
    isplitl [B0]; · iexact B0
    iexact C0
  isplitl [C1]; · iapply (fly_intro c 2048 1 inb_S16384x256_S2048x256_2048_0 inb_S8_S1_1 f g _ rfl); iexact C1
  isplitl [C2]; · iapply (fly_intro c 4096 2 inb_S16384x256_S2048x256_4096_0 inb_S8_S1_2 f g _ rfl); iexact C2
  isplitl [C3]; · iapply (fly_intro c 6144 3 inb_S16384x256_S2048x256_6144_0 inb_S8_S1_3 f g _ rfl); iexact C3
  isplitl [C4]; · iapply (fly_intro c 8192 4 inb_S16384x256_S2048x256_8192_0 inb_S8_S1_4 f g _ rfl); iexact C4
  isplitl [C5]; · iapply (fly_intro c 10240 5 inb_S16384x256_S2048x256_10240_0 inb_S8_S1_5 f g _ rfl); iexact C5
  isplitl [C6]; · iapply (fly_intro c 12288 6 inb_S16384x256_S2048x256_12288_0 inb_S8_S1_6 f g _ rfl); iexact C6
  isplitl [C7]; · iapply (fly_intro c 14336 7 inb_S16384x256_S2048x256_14336_0 inb_S8_S1_7 f g _ rfl); iexact C7
  isplitl [HW]
  · iexists _; isplitr; swap; · iexact HW
    ipureintro; exact hw
  isplitl [HR]
  · iexists _; isplitr; swap; · iexact HR
    ipureintro
    refine (read_stored (M := scR) fr ![0, 0] inb_S1024x256_S1024x256_0_0 (by decide) _).trans ?_
    rw [load_whole _ _ _ (by decide), hw]
  isplitl [HA]
  · iexists _; isplitr; swap; · iexact HA
    ipureintro
    refine (read_stored (M := scA) fa ![0, 0] inb_S1x256_S1x256_0_0 (by decide) _).trans ?_
    rw [show run_first.sl.dma0 c f = rowsOf c 0 inb_S16384x256_S2048x256_0_0 f from rfl, load_rows c 0 inb_S16384x256_S2048x256_0_0 _ _ e3 f _ (landed_apply c 0 _ f _ _ rfl)]
  iexists _; iexact HO

/-- Which point is meant, in the words the program tests. -/
theorem cond1_iff : ∀ i : grid0.Coords, Scalar.cmpi .ne (Scalar.extui (Scalar.cmpi .eq (BitVec.ofNat 32 (i 0).val) 0#32) : BitVec 32) 0#32 = 1#1 ↔ (i 0).val = 0 := by decide +kernel
/-- The first phase is the first eight points. -/
theorem cond2_iff : ∀ i : grid0.Coords, k0_cond2 i = 1#1 ↔ (i 0).val < 8 := by decide +kernel
/-- A further block is added at every point but the first. -/
theorem cond4_iff : ∀ i : grid0.Coords, Scalar.cmpi .ne (Scalar.extui (Scalar.cmpi .sgt (BitVec.ofNat 32 (i 0).val) 0#32) : BitVec 32) 0#32 = 1#1 ↔ 0 < (i 0).val := by decide +kernel
/-- The weights are prepared at the eighth point. -/
theorem cond5_iff : ∀ i : grid0.Coords, Scalar.cmpi .ne (Scalar.extui (Scalar.cmpi .eq (BitVec.ofNat 32 (i 0).val) 7#32) : BitVec 32) 0#32 = 1#1 ↔ (i 0).val = 7 := by decide +kernel
/-- The second phase is the last eight points. -/
theorem cond6_iff : ∀ i : grid0.Coords, k0_cond6 i = 1#1 ↔ 8 ≤ (i 0).val := by decide +kernel

/-- Points 1 to 6: the point's block is waited for and its column sums of squares added to those so far. -/
theorem run_mid (W : Waits sig Unit) (K : PUnit → sProp 𝕄) (k : Fin 8) (hk : (i 0).val = k.val) (hi : 0 < k.val) (hi' : k.val < 7) (d : Vec F S1x256 .f32) :
    iprop(flyRows c (2048 * k.val) k.val (rows_inb k) (cell_inb k) f ∗ owns (c : Thread nD τ) scA fullShare d ∗ owes (c : Thread nD τ) 0 W
        ∗ (iprop(fullRows c (2048 * k.val) k.val (rows_inb k) (cell_inb k) f
            ∗ owns (c : Thread nD τ) scA fullShare (k0_pay4 (rowsOf c (2048 * k.val) (rows_inb k) f) d)
            ∗ ∃ W', owes (c : Thread nD τ) 0 W') -∗ K ⟨⟩))
      ⊢ wp frame (wpE (defs₀ (F := F)) Variants.none c none) Set.univ (bodyOn i arg2 harg2 arg3 harg3) K := by
  have e1 : k0_off1 i = ![k.val] := by rw [k0_off1_eq, hk]
  have e2 : k0_off2 i = ![2048 * k.val, 0] := by rw [k0_off2_eq, hk]
  have e3 : k0_off3 i = ![2048 * k.val, 0] := by rw [k0_off3_eq, hk]
  letI : ClosedOff (k0_off1 i) := ⟨![k.val], e1⟩
  letI : ClosedOff (k0_off2 i) := ⟨![2048 * k.val, 0], e2⟩
  letI : ClosedOff (k0_off3 i) := ⟨![2048 * k.val, 0], e3⟩
  have h1 := mt (cond1_iff i).mp (by omega)
  have h2 := (cond2_iff i).mpr (by omega)
  have h4 := (cond4_iff i).mpr (by omega)
  have h5 := mt (cond5_iff i).mp (by omega)
  have h6 := mt (cond6_iff i).mp (by omega)
  have hcanonC := canonC h2 (cell_inb k) e1
  have hcanonX := canonX h2 (rows_inb k) e2
  have hcanonH := canonH h2 (rows_inb k) e2
  unfold bodyOn
  rw [cc0__fused_body_eq_skeleton]; unfold cc0__fused_body_skel
  unfold flyRows
  unfold owns
  iintro ⟨C, ⟨%fa, %ha, HA⟩, HO, HK⟩
  sl_exec
  sl_step
  iapply HK
  isplitl [C_dst C_src C]
  · isplitl [C_dst]; · iexact C_dst
    isplitl [C_src]; · iexact C_src
    iexact C
  isplitl [HA]
  · iexists _; isplitr; swap; · iexact HA
    ipureintro
    refine (read_stored (M := scA) fa ![0, 0] inb_S1x256_S1x256_0_0 (by decide) _).trans ?_
    rw [load_rows c (2048 * k.val) (rows_inb k) _ _ e3 f _ (fun _ _ => rfl), load_whole _ _ _ (by decide), ha]
  iexists _; iexact HO

/-- Point 7: the same, and then the weights divided by the column norms as well and rounded. -/
theorem run_last (W : Waits sig Unit) (K : PUnit → sProp 𝕄) (k : Fin 8) (hk : (i 0).val = k.val) (hi : k.val = 7) (d : Vec F S1x256 .f32) (r : Vec F S1024x256 .f32) :
    iprop(flyRows c (2048 * k.val) k.val (rows_inb k) (cell_inb k) f ∗ owns (c : Thread nD τ) scA fullShare d ∗ owns (c : Thread nD τ) scR fullShare r
        ∗ (∃ p, owns (c : Thread nD τ) scP fullShare p) ∗ owes (c : Thread nD τ) 0 W
        ∗ (iprop(fullRows c (2048 * k.val) k.val (rows_inb k) (cell_inb k) f
            ∗ owns (c : Thread nD τ) scA fullShare (k0_pay4 (rowsOf c (2048 * k.val) (rows_inb k) f) d)
            ∗ owns (c : Thread nD τ) scR fullShare r
            ∗ owns (c : Thread nD τ) scP fullShare (k0_pay5 (k0_pay4 (rowsOf c (2048 * k.val) (rows_inb k) f) d) r)
            ∗ ∃ W', owes (c : Thread nD τ) 0 W') -∗ K ⟨⟩))
      ⊢ wp frame (wpE (defs₀ (F := F)) Variants.none c none) Set.univ (bodyOn i arg2 harg2 arg3 harg3) K := by
  have e1 : k0_off1 i = ![k.val] := by rw [k0_off1_eq, hk]
  have e2 : k0_off2 i = ![2048 * k.val, 0] := by rw [k0_off2_eq, hk]
  have e3 : k0_off3 i = ![2048 * k.val, 0] := by rw [k0_off3_eq, hk]
  letI : ClosedOff (k0_off1 i) := ⟨![k.val], e1⟩
  letI : ClosedOff (k0_off2 i) := ⟨![2048 * k.val, 0], e2⟩
  letI : ClosedOff (k0_off3 i) := ⟨![2048 * k.val, 0], e3⟩
  have h1 := mt (cond1_iff i).mp (by omega)
  have h2 := (cond2_iff i).mpr (by omega)
  have h4 := (cond4_iff i).mpr (by omega)
  have h5 := (cond5_iff i).mpr (by omega)
  have h6 := mt (cond6_iff i).mp (by omega)
  have hcanonC := canonC h2 (cell_inb k) e1
  have hcanonX := canonX h2 (rows_inb k) e2
  have hcanonH := canonH h2 (rows_inb k) e2
  unfold bodyOn
  rw [cc0__fused_body_eq_skeleton]; unfold cc0__fused_body_skel
  unfold flyRows
  unfold owns
  iintro ⟨C, ⟨%fa, %ha, HA⟩, ⟨%fr, %hr, HR⟩, ⟨%p, %fp, -, HP⟩, HO, HK⟩
  sl_exec
  sl_step
  iapply HK
  isplitl [C_dst C_src C]
  · isplitl [C_dst]; · iexact C_dst
    isplitl [C_src]; · iexact C_src
    iexact C
  have e30 : run_last.sl.v30 c i f h2 fa = (k0_pay4 (rowsOf c (2048 * k.val) (rows_inb k) f) d) := by
    unfold run_last.sl.v30
    refine (View.readCov_cons_toLoadRect scA.view _ _ []).trans ?_
    rw [load_rows c (2048 * k.val) (rows_inb k) _ _ e3 f _ (fun _ _ => rfl), load_whole _ _ _ (by decide), ha]
  isplitl [HA]
  · iexists _; isplitr; swap; · iexact HA
    ipureintro
    refine (read_stored (M := scA) fa ![0, 0] inb_S1x256_S1x256_0_0 (by decide) _).trans ?_
    rw [load_rows c (2048 * k.val) (rows_inb k) _ _ e3 f _ (fun _ _ => rfl), load_whole _ _ _ (by decide), ha]
  isplitl [HR]; · iapply (owns_of_read c (M := scR) fr r hr); iexact HR
  isplitl [HP]
  · iexists _; isplitr; swap; · iexact HP
    ipureintro
    refine (read_stored (M := scP) fp ![0, 0] inb_S1024x256_S1024x256_0_0 (by decide) _).trans ?_
    rw [e30, load_whole _ _ _ (by decide), hr]
  iexists _; iexact HO

/-- Points 8 to 15: a block of the result is computed from the block of the copy and the prepared weights. -/
theorem run_out (W : Waits sig Unit) (K : PUnit → sProp 𝕄) (n : ℕ) (hi : (i 0).val = n + 8) (h : RowsIn (2048 * n)) (p : Vec F S1024x256 .bf16) :
    iprop(((rowsX (2048 * n) h).view.loc (c : Thread nD τ) ↦[(rowsX (2048 * n) h).view.set]{fullShare} asX c f)
        ∗ owns (c : Thread nD τ) scP fullShare p ∗ (∃ d, owns (c : Thread nD τ) arg3 fullShare d) ∗ owes (c : Thread nD τ) 0 W
        ∗ (iprop(((rowsX (2048 * n) h).view.loc (c : Thread nD τ) ↦[(rowsX (2048 * n) h).view.set]{fullShare} asX c f)
            ∗ owns (c : Thread nD τ) scP fullShare p
            ∗ owns (c : Thread nD τ) arg3 fullShare (k0_pay6 (rowsOf c (2048 * n) h f) p)
            ∗ ∃ W', owes (c : Thread nD τ) 0 W') -∗ K ⟨⟩))
      ⊢ wp frame (wpE (defs₀ (F := F)) Variants.none c none) Set.univ (bodyOn i arg2 harg2 arg3 harg3) K := by
  have h1 := mt (cond1_iff i).mp (by omega)
  have h2 := mt (cond2_iff i).mp (by omega)
  have h6 := (cond6_iff i).mpr (by omega)
  have e4 : k0_off4 i = ![2048 * n, 0] := by rw [off4_eq' i h6, hi, Nat.add_sub_cancel]
  letI : ClosedOff (k0_off4 i) := ⟨![2048 * n, 0], e4⟩
  unfold bodyOn
  rw [cc0__fused_body_eq_skeleton]; unfold cc0__fused_body_skel
  unfold owns
  iintro ⟨X, ⟨%fp, %hp, HP⟩, ⟨%d, %fo, -, H3⟩, HO, HK⟩
  sl_exec
  sl_step
  iapply HK
  isplitl [X]; · iexact X
  isplitl [HP]; · iapply (owns_of_read c (M := scP) fp p hp); iexact HP
  isplitl [H3]
  · iexists _; isplitr; swap; · iexact H3
    ipureintro
    refine (read_stored (M := arg3) fo ![0, 0] inb_S2048x1024_S2048x1024_0_0 (by decide) _).trans ?_
    rw [load_rows c (2048 * n) h _ _ e4 f _ (fun _ _ => rfl), load_whole _ _ _ (by decide), hp]
  iexists _; iexact HO

end Cert.KernelIdeal.Hand

end
-- ==== Proof.KernelIdealFrame.lean ====
/-
  The kernel's launch: the invariant between grid points, the body's obligation at each of the sixteen points, and the
  run of the whole program from it.
-/
module

public import proofs.«01_k».proof.Proof.KernelIdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! ## What the launch hands over -/

/-- `all_ts` is the buffer the kernel reads where it lies. -/
def H0 : Finset (Ref sig .tc) := {main_arg0}
/-- The array of `all_ts` is among those no block is taken from by the pipeline. -/
theorem H0_sub : H0 ⊆ Pipeline.restRefs sig spec0 := by decide

section
variable (m : (ℓ : Loc nD τ sig) → Buf (Elt F) ℓ) (c : Dev nD)

/-- What is owned of those arrays is the one array of `all_ts`. -/
theorem hbmPts0_eq :
    (bigSep H0 (fun b => ((c : Thread nD τ).loc b) ↦{fullShare} V m c b) : sProp 𝕄) = iprop(hbM.view.loc (c : Thread nD τ) ↦{fullShare} V m c main_arg0) := by
  rw [BI.bigSep_eq_bigSepL_of_eq [main_arg0] (by decide) (by decide)]; rfl

/-- Before the first point: the four scratches at anything, the generator register, the eight cells at zero, and `all_ts`. -/
abbrev start : sProp 𝕄 :=
  iprop(((∃ g, scX.view.loc (c : Thread nD τ) ↦{fullShare} g) ∗ (∃ d, owns (c : Thread nD τ) scP fullShare d)
      ∗ (∃ d, owns (c : Thread nD τ) scR fullShare d) ∗ (∃ d, owns (c : Thread nD τ) scA fullShare d))
    ∗ (∃ r, prngReg c r) ∗ (bigSep Finset.univ fun k : Fin 8 => semVal ((c : Thread nD τ), slotC k) 0)
    ∗ (hbM.view.loc (c : Thread nD τ) ↦{fullShare} V m c main_arg0))

/-- What the first point starts from is the invariant's start. -/
theorem start_eq : (Pipeline.ΦD osem0 spec0 H0 (V m) c : sProp 𝕄) = start m c := by
  have hs : (Pipeline.ownSems0 (Ix := Unit) (Name := ℕ) (U := Pipeline.UD sig nD τ) (Lvl := ℕ) (Val := Elt F) (τ := τ) osem0 c : sProp 𝕄)
      = bigSep Finset.univ fun k : Fin 8 => semVal ((c : Thread nD τ), slotC k) 0 := by
    refine Eq.trans (b := bigSep Finset.univ fun k : Fin 8 => semVal ((c : Thread nD τ), osem0 k) 0) rfl ?_
    exact bigSep_congr fun k _ => by rw [osem0_eq]
  rw [Pipeline.ΦD_eq, scopedRest0_eq, hs, hbmPts0_eq]
  unfold start
  simp only [scP, scR, scA, owns_whole]
  rfl

end

/-! ## The values -/

section
variable (c : Dev nD) (f : Buf (Elt F) (hbM.view.loc (c : Thread nD τ)))

/-- Block `k` of `all_ts`. -/
abbrev blk (k : Fin 8) : Vec F S2048x256 .f32 := rowsOf c (2048 * k.val) (rows_inb k) f

/-- The sums of squares of the columns over the first `n + 1` blocks, as the kernel accumulates them. -/
def accN : (n : ℕ) → n < 8 → Vec F S1x256 .f32
  | 0, h => k0_pay3 (blk c f ⟨0, h⟩)
  | n + 1, h => k0_pay4 (blk c f ⟨n + 1, h⟩) (accN n (Nat.lt_of_succ_lt h))

/-- The prepared weights that the second phase multiplies by. -/
def prepared (w : Vec F S1024x256 .f32) : Vec F S1024x256 .bf16 := k0_pay5 (accN c f 7 (by decide)) (k0_pay1 w)

/-! ## The invariant -/

/-- Slot `k` after `n` points: full once its point is past, before that its copy is under way. -/
def slotSt (n : ℕ) (k : Fin 8) : sProp 𝕄 :=
  if k.val < n then fullRows c (2048 * k.val) k.val (rows_inb k) (cell_inb k) f
  else flyRows c (2048 * k.val) k.val (rows_inb k) (cell_inb k) f

/-- A block already waited for is there, with its cell at rest. -/
theorem slotSt_full {n : ℕ} {k : Fin 8} (h : k.val < n) : (slotSt c f n k : sProp 𝕄) = fullRows c (2048 * k.val) k.val (rows_inb k) (cell_inb k) f := if_pos h
/-- A block not yet waited for is in flight. -/
theorem slotSt_fly {n : ℕ} {k : Fin 8} (h : ¬ k.val < n) : (slotSt c f n k : sProp 𝕄) = flyRows c (2048 * k.val) k.val (rows_inb k) (cell_inb k) f := if_neg h

/-- The slots other than `k`. -/
def others (n : ℕ) (k : Fin 8) : sProp 𝕄 := bigSep (Finset.univ.erase k) (slotSt c f n)

/-- The eight blocks are one of them and the others. -/
theorem slots_focus (n : ℕ) (k : Fin 8) : (bigSep Finset.univ (slotSt c f n) : sProp 𝕄) = iprop(slotSt c f n k ∗ others c f n k) :=
  bigSep_erase (Finset.mem_univ k)

/-- Point `k` changes no slot but its own. -/
theorem others_step (n : ℕ) (k : Fin 8) (h : 8 ≤ n ∨ k.val = n) : (others c f n k : sProp 𝕄) = others c f (n + 1) k := by
  refine bigSep_congr fun j hj => ?_
  have hj' : j.val ≠ k.val := fun e => (Finset.mem_erase.mp hj).1 (Fin.ext e)
  have := j.isLt
  by_cases hn : j.val < n
  · rw [slotSt_full c f hn, slotSt_full c f (by omega)]
  · rw [slotSt_fly c f hn, slotSt_fly c f (by omega)]

/-- After `n + 1` points: the slots, the weights over their row norms, the column sums of the blocks so far, after
    point 7 the prepared weights, and the generator register. -/
def after (w : Vec F S1024x256 .f32) (n : ℕ) : sProp 𝕄 :=
  iprop((bigSep Finset.univ (slotSt c f (n + 1))) ∗ owns (c : Thread nD τ) scR fullShare (k0_pay1 w)
    ∗ (∃ d, ⌜∀ h : n < 8, d = accN c f n h⌝ ∗ owns (c : Thread nD τ) scA fullShare d)
    ∗ (∃ p, ⌜7 ≤ n → p = prepared c f w⌝ ∗ owns (c : Thread nD τ) scP fullShare p) ∗ ∃ r, prngReg c r)

end

/-! ## The points -/

section
variable (c : Dev nD) (f : Buf (Elt F) (hbM.view.loc (c : Thread nD τ))) (w : Vec F S1024x256 .f32)
variable (i : grid0.Coords)
  (arg2 : Memref sig .tc .vmem S1024x256 .f32) (harg2 : arg2.IsWhole) (arg3 : Memref sig .tc .vmem S2048x1024 .f32) (harg3 : arg3.IsWhole)
  (W : Waits sig Unit)

/-- Points 1 to 6. -/
theorem point_mid (K : PUnit → sProp 𝕄) (n : ℕ) (hi : (i 0).val = n + 1) (hn : n < 6) :
    iprop(after c f w n ∗ owes (c : Thread nD τ) 0 W ∗ (iprop(after c f w (n + 1) ∗ ∃ W', owes (c : Thread nD τ) 0 W') -∗ K ⟨⟩))
      ⊢ wp frame (wpE (defs₀ (F := F)) Variants.none c none) Set.univ (bodyOn i arg2 harg2 arg3 harg3) K := by
  have hk : n + 1 < 8 := by omega
  unfold after
  rw [slots_focus c f (n + 1) ⟨n + 1, hk⟩, slots_focus c f (n + 1 + 1) ⟨n + 1, hk⟩, ← others_step c f (n + 1) ⟨n + 1, hk⟩ (.inr rfl),
    slotSt_fly c f (k := ⟨n + 1, hk⟩) (n := n + 1) (Nat.lt_irrefl _), slotSt_full c f (k := ⟨n + 1, hk⟩) (n := n + 1 + 1) (Nat.lt_succ_self _)]
  iintro ⟨⟨⟨HC, HS⟩, HR, ⟨%d, %hd, HA⟩, ⟨%p, %hp, HP⟩, HG⟩, HO, HK⟩
  iapply (run_mid c i arg2 harg2 arg3 harg3 f W K ⟨n + 1, hk⟩ hi (Nat.succ_pos n) (by show n + 1 < 7; omega) d)
  isplitl [HC]; · iexact HC
  isplitl [HA]; · iexact HA
  isplitl [HO]; · iexact HO
  iintro ⟨HC, HA, HO⟩
  iapply HK
  isplitr [HO]; swap; · iexact HO
  isplitl [HC HS]
  · isplitl [HC]; · iexact HC
    iexact HS
  isplitl [HR]; · iexact HR
  isplitl [HA]
  · iexists _; isplitr; swap; · iexact HA
    ipureintro; intro h; rw [hd (Nat.lt_of_succ_lt h)]; rfl
  isplitl [HP]
  · iexists p; isplitr; swap; · iexact HP
    ipureintro; intro h; omega
  iexact HG

/-- Point 7. -/
theorem point_last (K : PUnit → sProp 𝕄) (hi : (i 0).val = 7) :
    iprop(after c f w 6 ∗ owes (c : Thread nD τ) 0 W ∗ (iprop(after c f w 7 ∗ ∃ W', owes (c : Thread nD τ) 0 W') -∗ K ⟨⟩))
      ⊢ wp frame (wpE (defs₀ (F := F)) Variants.none c none) Set.univ (bodyOn i arg2 harg2 arg3 harg3) K := by
  unfold after
  rw [slots_focus c f (6 + 1) 7, slots_focus c f (7 + 1) 7, ← others_step c f 7 7 (.inr rfl),
    slotSt_fly c f (k := 7) (n := 6 + 1) (by decide), slotSt_full c f (k := 7) (n := 7 + 1) (by decide)]
  iintro ⟨⟨⟨HC, HS⟩, HR, ⟨%d, %hd, HA⟩, ⟨%p, %hp, HP⟩, HG⟩, HO, HK⟩
  iapply (run_last c i arg2 harg2 arg3 harg3 f W K 7 hi rfl d (k0_pay1 w))
  isplitl [HC]; · iexact HC
  isplitl [HA]; · iexact HA
  isplitl [HR]; · iexact HR
  isplitl [HP]; · iexists p; iexact HP
  isplitl [HO]; · iexact HO
  iintro ⟨HC, HA, HR, HP, HO⟩
  iapply HK
  isplitr [HO]; swap; · iexact HO
  isplitl [HC HS]
  · isplitl [HC]; · iexact HC
    iexact HS
  isplitl [HR]; · iexact HR
  isplitl [HA]
  · iexists _; isplitr; swap; · iexact HA
    ipureintro; intro h; rw [hd (by decide)]; rfl
  isplitl [HP]
  · iexists _; isplitr; swap; · iexact HP
    ipureintro; intro h; rw [hd (by decide)]; rfl
  iexact HG

/-- Points 8 to 15. -/
theorem point_out (K : PUnit → sProp 𝕄) (n : ℕ) (hn : n < 8) (hi : (i 0).val = n + 8) :
    iprop(after c f w (n + 7) ∗ (∃ d, owns (c : Thread nD τ) arg3 fullShare d) ∗ owes (c : Thread nD τ) 0 W
        ∗ (iprop(after c f w (n + 8) ∗ owns (c : Thread nD τ) arg3 fullShare (k0_pay6 (blk c f ⟨n, hn⟩) (prepared c f w)) ∗ ∃ W', owes (c : Thread nD τ) 0 W') -∗ K ⟨⟩))
      ⊢ wp frame (wpE (defs₀ (F := F)) Variants.none c none) Set.univ (bodyOn i arg2 harg2 arg3 harg3) K := by
  unfold after
  rw [slots_focus c f (n + 7 + 1) ⟨n, hn⟩, slots_focus c f (n + 8 + 1) ⟨n, hn⟩, ← others_step c f (n + 8) ⟨n, hn⟩ (.inl (Nat.le_add_left _ _)),
    slotSt_full c f (k := ⟨n, hn⟩) (n := n + 7 + 1) (by show n < n + 7 + 1; omega), slotSt_full c f (k := ⟨n, hn⟩) (n := n + 8 + 1) (by show n < n + 8 + 1; omega)]
  iintro ⟨⟨⟨⟨HX, HB, HC⟩, HS⟩, HR, ⟨%d, %hd, HA⟩, ⟨%p, %hp, HP⟩, HG⟩, H3, HO, HK⟩
  iapply (run_out c i arg2 harg2 arg3 harg3 f W K n hi (rows_inb ⟨n, hn⟩) p)
  isplitl [HX]; · iexact HX
  isplitl [HP]; · iexact HP
  isplitl [H3]; · iexact H3
  isplitl [HO]; · iexact HO
  iintro ⟨HX, HP, H3, HO⟩
  iapply HK
  isplitr [HO H3]
  · isplitl [HX HB HC HS]
    · isplitl [HX HB HC]
      · isplitl [HX]; · iexact HX
        isplitl [HB]; · iexact HB
        iexact HC
      iexact HS
    isplitl [HR]; · iexact HR
    isplitl [HA]
    · iexists d; isplitr; swap; · iexact HA
      ipureintro; intro h; omega
    isplitl [HP]
    · iexists p; isplitr; swap; · iexact HP
      ipureintro; intro h; exact hp (by omega)
    iexact HG
  isplitl [H3]; · rw [hp (by omega)]; iexact H3
  iexact HO

/-- The copy, `all_ts` and the cells before the first point, cut into the eight slots. -/
theorem free_list (g : Buf (Elt F) (scX.view.loc (c : Thread nD τ))) :
    (iprop((scX.view.loc (c : Thread nD τ) ↦{fullShare} g) ∗ (hbM.view.loc (c : Thread nD τ) ↦{fullShare} f)
        ∗ bigSep Finset.univ fun k : Fin 8 => semVal ((c : Thread nD τ), slotC k) 0) : sProp 𝕄)
      = iprop(freeRows c 0 0 inb_S16384x256_S2048x256_0_0 inb_S8_S1_0 g f
        ∗ freeRows c 2048 1 inb_S16384x256_S2048x256_2048_0 inb_S8_S1_1 g f
        ∗ freeRows c 4096 2 inb_S16384x256_S2048x256_4096_0 inb_S8_S1_2 g f
        ∗ freeRows c 6144 3 inb_S16384x256_S2048x256_6144_0 inb_S8_S1_3 g f
        ∗ freeRows c 8192 4 inb_S16384x256_S2048x256_8192_0 inb_S8_S1_4 g f
        ∗ freeRows c 10240 5 inb_S16384x256_S2048x256_10240_0 inb_S8_S1_5 g f
        ∗ freeRows c 12288 6 inb_S16384x256_S2048x256_12288_0 inb_S8_S1_6 g f
        ∗ freeRows c 14336 7 inb_S16384x256_S2048x256_14336_0 inb_S8_S1_7 g f) := by
  rw [whole_slots, whole_blocks, ← bigSep_sep', ← bigSep_sep']
  rw [bigSep_univ_eq_bigSepL [(0 : Fin 8), 1, 2, 3, 4, 5, 6, 7] (by decide) (by decide)]; rfl

/-- The slots after the first point, one by one: the first is full, the others' copies are under way. -/
theorem slots_one :
    (bigSep Finset.univ (slotSt c f 1) : sProp 𝕄)
      = iprop(fullRows c 0 0 inb_S16384x256_S2048x256_0_0 inb_S8_S1_0 f
        ∗ flyRows c 2048 1 inb_S16384x256_S2048x256_2048_0 inb_S8_S1_1 f
        ∗ flyRows c 4096 2 inb_S16384x256_S2048x256_4096_0 inb_S8_S1_2 f
        ∗ flyRows c 6144 3 inb_S16384x256_S2048x256_6144_0 inb_S8_S1_3 f
        ∗ flyRows c 8192 4 inb_S16384x256_S2048x256_8192_0 inb_S8_S1_4 f
        ∗ flyRows c 10240 5 inb_S16384x256_S2048x256_10240_0 inb_S8_S1_5 f
        ∗ flyRows c 12288 6 inb_S16384x256_S2048x256_12288_0 inb_S8_S1_6 f
        ∗ flyRows c 14336 7 inb_S16384x256_S2048x256_14336_0 inb_S8_S1_7 f) := by
  rw [bigSep_univ_eq_bigSepL [(0 : Fin 8), 1, 2, 3, 4, 5, 6, 7] (by decide) (by decide)]; rfl

/-- All eight slots full are the copy whole, `all_ts` whole and the cells at zero. -/
theorem slots_full (n : ℕ) (hn : 8 ≤ n) :
    (bigSep Finset.univ (slotSt c f n) : sProp 𝕄)
      = iprop((scX.view.loc (c : Thread nD τ) ↦{fullShare} asX c f) ∗ (hbM.view.loc (c : Thread nD τ) ↦{fullShare} f)
        ∗ bigSep Finset.univ fun k : Fin 8 => semVal ((c : Thread nD τ), slotC k) 0) := by
  rw [whole_slots, whole_blocks, ← bigSep_sep', ← bigSep_sep']
  exact bigSep_congr fun k _ => slotSt_full c f (Nat.lt_of_lt_of_le k.isLt hn)

/-- Point 0. -/
theorem point_first (m : (ℓ : Loc nD τ sig) → Buf (Elt F) ℓ) (K : PUnit → sProp 𝕄) (hi : (i 0).val = 0) :
    iprop(start m c ∗ owns (c : Thread nD τ) arg2 fullShare w ∗ owes (c : Thread nD τ) 0 W
        ∗ (iprop(after c (V m c main_arg0) w 0 ∗ owns (c : Thread nD τ) arg2 fullShare w ∗ ∃ W', owes (c : Thread nD τ) 0 W') -∗ K ⟨⟩))
      ⊢ wp frame (wpE (defs₀ (F := F)) Variants.none c none) Set.univ (bodyOn i arg2 harg2 arg3 harg3) K := by
  unfold after start
  rw [slots_one]
  iintro ⟨⟨⟨⟨%g, HX⟩, HP, HR, HA⟩, HG, HC, HB⟩, H2, HO, HK⟩
  ihave HS := (BIBase.Entails.of_eq (free_list c (V m c main_arg0) g)) $$ [HX HB HC]
  · isplitl [HX]; · iexact HX
    isplitl [HB]; · iexact HB
    iexact HC
  icases HS with ⟨S0, S1, S2, S3, S4, S5, S6, S7⟩
  iapply (run_first c i arg2 harg2 arg3 harg3 (V m c main_arg0) W K hi g w)
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [H2]; · iexact H2
  isplitl [HR]; · iexact HR
  isplitl [HA]; · iexact HA
  isplitl [HO]; · iexact HO
  iintro ⟨S0, S1, S2, S3, S4, S5, S6, S7, H2, HR, HA, HO⟩
  iapply HK
  isplitr [HO H2]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [HR]; · iexact HR
    isplitl [HA]
    · iexists _; isplitr; swap; · iexact HA
      ipureintro; intro h; rfl
    isplitl [HP]
    · icases HP with ⟨%p, HP⟩
      iexists p; isplitr; swap; · iexact HP
      ipureintro; intro h; omega
    iexact HG
  isplitl [H2]; · iexact H2
  iexact HO

/-- After the last point everything the launch lent is handed back. -/
theorem finish (m : (ℓ : Loc nD τ sig) → Buf (Elt F) ℓ) : (after c (V m c main_arg0) w 15 : sProp 𝕄) ⊢ start m c := by
  unfold after start
  rw [slots_full c _ 16 (by decide)]
  iintro ⟨⟨HX, HB, HC⟩, HR, ⟨%d, %hd, HA⟩, ⟨%p, %hp, HP⟩, HG⟩
  isplitl [HX HP HR HA]
  · isplitl [HX]; · iexists _; iexact HX
    isplitl [HP]; · iexists p; iexact HP
    isplitl [HR]; · iexists _; iexact HR
    iexists d; iexact HA
  isplitl [HG]; · iexact HG
  isplitl [HC]; · iexact HC
  iexact HB

end

/-! ## The proof data -/

variable (m : (ℓ : Loc nD τ sig) → Buf (Elt F) ℓ) (ρ : Dev nD → PrngReg)

/-- The weights as the launch finds them: the first window's block, the same at every point. -/
def wts (c : Dev nD) : Vec F S1024x256 .f32 := iblk m c 0 t0_0

/-- The invariant after `n` points. -/
def inv (c : Dev nD) : ℕ → sProp 𝕄
  | 0 => start m c
  | n + 1 => after c (V m c main_arg0) (wts m c) n

/-- Before the first point the invariant is the start. -/
theorem inv_zero (c : Dev nD) : (inv m c 0 : sProp 𝕄) = start m c := rfl
/-- After a point the invariant is what that point leaves. -/
theorem inv_succ (c : Dev nD) (n : ℕ) : (inv m c (n + 1) : sProp 𝕄) = after c (V m c main_arg0) (wts m c) n := rfl

/-- The block of the result that point `t` leaves. -/
def outBlk (c : Dev nD) (t : ℕ) : Vec F S2048x1024 .f32 :=
  k0_pay6 (blk c (V m c main_arg0) ⟨(t - 8) % 8, Nat.mod_lt _ (by decide)⟩) (prepared c (V m c main_arg0) (wts m c))

/-- The proof data of the launch. -/
def dats (_ : Fin 1) (c : Dev nD) : Dat τ (Elt F) Unit ℕ (Pipeline.UD sig nD τ) ℕ cfg0 c where
  A w := V m c (Pipeline.arrRef spec0 w)
  after
    | 0 => fun t => iblk m c 0 t
    | 1 => fun t => outBlk m c t.val
  Φ t := inv m c t.val
  q _ := fullShare
  owed _ := 0

/-- A window's array at the start is the memory's. -/
theorem A_eq (c : Dev nD) (w : Fin cfg0.W) : (dats m 0 c).A w = V m c (Pipeline.arrRef spec0 w) := by dsimp only [dats]

/-- The grid has one axis: a point's coordinate is the point. -/
theorem coord_val : ∀ t : Fin cfg0.N, (cfg0.grid.coords t 0).val = t.val := by decide +kernel

/-- In the first phase the output window is left alone and nothing is written back; -/
theorem idle_first : ∀ t : Fin cfg0.N, t.val < 8 → cfg0.idle 1 (cfg0.grid.coords t) = true ∧ (cfg0.win 1).flush t = false := by decide +kernel
/-- in the second it is written at every point. -/
theorem live_second : ∀ t : Fin cfg0.N, 8 ≤ t.val → cfg0.idle 1 (cfg0.grid.coords t) = false := by decide +kernel
/-- There are sixteen points. -/
theorem points : cfg0.N = 16 := N_0

/-- The weights' buffer holds the weights at every point. -/
theorem before_wts (c : Dev nD) (t : Fin cfg0.N) (d) : (dats m 0 c).before 0 t d = iblk m c 0 t := by
  refine ((dats m 0 c).before_in_eq_fetched 0 rfl (fun _ => rfl) (fun _ _ _ => rfl) (fun t => ?_) t d).trans ?_
  · dsimp only [dats]; rfl
  · dsimp only [dats]; rfl

/-- What the output window's buffer must hold after point `t`. -/
def outPost (c : Dev nD) (t : Fin cfg0.N) : sProp 𝕄 :=
  match cfg0.idle 1 (cfg0.grid.coords t) with
  | true =>
    match (cfg0.win 1).flush t with
    | false => iprop(∃ d, owns (c : Thread nD τ) (st0_1 t) fullShare ((dats m 0 c).before 1 t d))
    | true => owns (c : Thread nD τ) (st0_1 t) fullShare ((dats m 0 c).after 1 t)
  | false => owns (c : Thread nD τ) (st0_1 t) fullShare ((dats m 0 c).after 1 t)

/-- In the first phase a point leaves its block of the result as it was. -/
theorem outPost_first (c : Dev nD) (t : Fin cfg0.N) (h : t.val < 8) :
    (outPost m c t : sProp 𝕄) = iprop(∃ d, owns (c : Thread nD τ) (st0_1 t) fullShare ((dats m 0 c).before 1 t d)) := by
  unfold outPost; rw [(idle_first t h).1, (idle_first t h).2]
/-- In the second phase a point leaves its block of the result computed. -/
theorem outPost_second (c : Dev nD) (t : Fin cfg0.N) (h : 8 ≤ t.val) :
    (outPost m c t : sProp 𝕄) = owns (c : Thread nD τ) (st0_1 t) fullShare (outBlk m c t.val) := by
  unfold outPost; rw [live_second t h]; dsimp only [dats]

/-- The body at point `t`, between the invariants before and after it. -/
theorem sound_body (c : Dev nD) (t : Fin cfg0.N) :
    iprop(inv m c t.val ∗ (∃ W, owes (c : Thread nD τ) 0 W) ∗ owns (c : Thread nD τ) (st0_0 t) fullShare (iblk m c 0 t)
        ∗ (∃ d, owns (c : Thread nD τ) (st0_1 t) fullShare ((dats m 0 c).before 1 t d)))
      ⊢ wp frame (wpE (defs₀ (F := F)) Variants.none c none) Set.univ (bodyAt0 t) fun _ =>
        iprop(inv m c (t.val + 1) ∗ (∃ W', owes (c : Thread nD τ) 0 W')
          ∗ owns (c : Thread nD τ) (st0_0 t) fullShare (iblk m c 0 t) ∗ outPost m c t) := by
  have hc := coord_val t
  have hN : t.val < 16 := Nat.lt_of_lt_of_eq t.isLt points
  rcases Nat.lt_or_ge t.val 8 with h8 | h8
  · rw [outPost_first m c t h8]
    rcases Nat.eq_zero_or_pos t.val with h0 | h0
    · have hw : iblk m c 0 t = wts m c := by
        have ht : t = t0_0 := Fin.ext h0
        rw [ht]; rfl
      rw [h0] at hc ⊢
      rw [hw, inv_zero, inv_succ]
      iintro ⟨HI, ⟨%W, HO⟩, H2, H3⟩
      iapply (point_first c (wts m c) (cfg0.grid.coords t) (st0_0 t) _ (st0_1 t) _ W m _ hc)
      isplitl [HI]; · iexact HI
      isplitl [H2]; · iexact H2
      isplitl [HO]; · iexact HO
      iintro ⟨HI, H2, HO⟩
      isplitl [HI]; · iexact HI
      isplitl [HO]; · iexact HO
      isplitl [H2]; · iexact H2
      iexact H3
    obtain ⟨n, hn⟩ : ∃ n, t.val = n + 1 := ⟨t.val - 1, by omega⟩
    rw [hn] at hc ⊢
    rw [inv_succ, inv_succ]
    rcases Nat.lt_or_ge n 6 with h6 | h6
    · iintro ⟨HI, ⟨%W, HO⟩, H2, H3⟩
      iapply (point_mid c (V m c main_arg0) (wts m c) (cfg0.grid.coords t) (st0_0 t) _ (st0_1 t) _ W _ n hc h6)
      isplitl [HI]; · iexact HI
      isplitl [HO]; · iexact HO
      iintro ⟨HI, HO⟩
      isplitl [HI]; · iexact HI
      isplitl [HO]; · iexact HO
      isplitl [H2]; · iexact H2
      iexact H3
    · obtain rfl : n = 6 := by omega
      iintro ⟨HI, ⟨%W, HO⟩, H2, H3⟩
      iapply (point_last c (V m c main_arg0) (wts m c) (cfg0.grid.coords t) (st0_0 t) _ (st0_1 t) _ W _ hc)
      isplitl [HI]; · iexact HI
      isplitl [HO]; · iexact HO
      iintro ⟨HI, HO⟩
      isplitl [HI]; · iexact HI
      isplitl [HO]; · iexact HO
      isplitl [H2]; · iexact H2
      iexact H3
  · rw [outPost_second m c t h8]
    obtain ⟨n, hn⟩ : ∃ n, t.val = n + 8 := ⟨t.val - 8, by omega⟩
    have hn8 : n < 8 := by omega
    rw [hn] at hc ⊢
    have ho : outBlk m c (n + 8) = k0_pay6 (blk c (V m c main_arg0) ⟨n, hn8⟩) (prepared c (V m c main_arg0) (wts m c)) := by
      unfold outBlk
      simp only [Nat.add_sub_cancel, Nat.mod_eq_of_lt hn8]
    rw [ho, inv_succ, show n + 8 = n + 7 + 1 from rfl, inv_succ]
    iintro ⟨HI, ⟨%W, HO⟩, H2, ⟨%d, H3⟩⟩
    iapply (point_out c (V m c main_arg0) (wts m c) (cfg0.grid.coords t) (st0_0 t) _ (st0_1 t) _ W _ n hn8 hc)
    isplitl [HI]; · iexact HI
    isplitl [H3]; · iexists _; iexact H3
    isplitl [HO]; · iexact HO
    iintro ⟨HI, H3, HO⟩
    isplitl [HI]; · iexact HI
    isplitl [HO]; · iexact HO
    isplitl [H2]; · iexact H2
    iexact H3

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The invariant before a point. -/
theorem phi_before (c : Dev nD) (t : Fin cfg0.N) : (dats (F := F) m 0 c).Φ t.castSucc = inv m c t.val := by
  dsimp only [dats]; exact Dat.Φ_castSucc (fun n _ => inv m c n) t
/-- The invariant after a point. -/
theorem phi_after (c : Dev nD) (t : Fin cfg0.N) : (dats (F := F) m 0 c).Φ t.succ = inv m c (t.val + 1) := by
  dsimp only [dats, Fin.val_succ]

/-- The body's obligation at every point. -/
theorem body_obligation (c : Dev nD) : BodyObligation (dats (F := F) m 0 c) (defs₀ (F := F)) Variants.none () Set.univ := fun t => by
  rw [bigSep_W0, bigSep_W0, defs₀_row, phi_before, phi_after]
  refine triple_restated (sound_body m c t) rfl ?_ fun _ => ?_
  · unfold Dat.owesAt Pipeline.owesWithin
    iintro ⟨HI, ⟨%W, %hW, HO⟩, ⟨%d, H2⟩, H3⟩
    isplitl [HI]; · iexact HI
    isplitl [HO]; · iexists W; iexact HO
    isplitl [H2]; · iapply (BIBase.Entails.of_eq (congrArg (owns (c : Thread nD τ) (st0_0 t) fullShare) (before_wts m c t d))); iexact H2
    iexact H3
  · unfold Dat.owesAt Pipeline.owesWithin outPost
    cases cfg0.idle 1 (cfg0.grid.coords t) <;> cases (cfg0.win 1).flush t <;>
    iintro ⟨HI, ⟨%W, HO⟩, H2, H3⟩ <;> (
      isplitl [HI]; · iexact HI
      isplitl [HO]
      · iexists W; isplitr; · ipureintro; exact fun _ _ => Or.inl trivial
        iexact HO
      isplitl [H2]; · iexact H2
      iexact H3)

/-! ## The launch -/

/-- The program up to its one launch. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- From any memory with its counters at zero the program ends, with every array as the proof data say and every counter
    at zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => BIBase.Entails.of_eq (start_eq m c))
    (hout := fun c => (finish c (wts m c) m).trans (BIBase.Entails.of_eq (start_eq m c).symm))

end Cert.KernelIdeal.Hand

end
-- ==== Proof.KernelIdealResult.lean ====
/-
  What a finished run leaves: the arguments as they were, the counters at zero, and the result array at its blocks.
-/
module

public import proofs.«01_k».proof.Proof.KernelIdealFrame

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [∀ e, Nonempty (Elt F e)]
variable (m : (ℓ : Loc nD τ sig) → Buf (Elt F) ℓ) (ρ : Dev nD → PrngReg)

/-- Every weakly fair run of the kernel ends with every counter at zero, the four arguments unchanged, and the result
    array holding what the launch's write-backs put there. -/
theorem run_result :
    θ_run defs (onTc (τ := τ) (main (F := F))) ⟨m, fun _ => 0, ρ⟩ (fun r => (∀ c : Dev nD,
      r.2.mem ((c.tc : Thread nD τ).loc main_v0) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => ⟨fun c => ⟨(hr.1 c).1 1,
      ((hr.1 c).2 main_arg0 (Pipeline.mem_restRefs_of main_arg0 (by decide) (by decide))).trans (V_main_arg0 m c),
      ((hr.1 c).1 0).trans (((dats m 0 c).arrAt_in 0 rfl _).trans ((A_eq m c 0).trans (V_main_arg1 m c))),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c)⟩, hr.2⟩)
    (run_main m ρ)

end Cert.KernelIdeal.Hand

end
-- ==== Proof.KernelSame.lean ====
/-
  The two printed kernels are one program: what is proved of the one for every reading of the floats holds of the other.
-/
module

public import proofs.«01_k».proof.Proof.Gen.Kernel
public import proofs.«01_k».proof.Proof.KernelIdealResult

@[expose] public section

noncomputable section

namespace Cert.KernelSame

open Idealize.ShloMosaic Idealize.ShloMosaic.TcCoe Idealize.SL.Sem

variable {F : FTy → Type} [FloatOps F]

/-- The two kernels' bodies are the same program at every label. -/
theorem defs₀_same : Cert.Kernel.defs₀ (F := F) = Cert.KernelIdeal.defs₀ (F := F) := by
  unfold Cert.Kernel.defs₀ Cert.KernelIdeal.defs₀
  refine congrArg Defs.onTc ?_
  funext ℓ x
  match ℓ, x with
  | 0, (t, s) => rfl

/-- The two kernels' launches are configured alike. -/
theorem pcfgs_same : Cert.Kernel.pcfgs (F := F) = Cert.KernelIdeal.pcfgs (F := F) := by
  funext p
  match p with
  | 0 => rfl

/-- Launches configured alike, over the same bodies, have the same table. -/
theorem defs_heq {nD : ℕ} {τ : Topo} {sig : RefSig} {Val : EltTy → Type} {Λ₀ : Labels} {n : ℕ}
    (p q : Fin n → Pipeline.PCfg sig Λ₀ Val) (h : p = q) (d : Defs nD τ sig Val Λ₀) :
    HEq (Pipeline.defs p d) (Pipeline.defs q d) := by
  cases h; rfl

/-- The two kernels' tables agree. -/
theorem defs_same : Cert.Kernel.defs (F := F) = Cert.KernelIdeal.defs (F := F) := by
  unfold Cert.Kernel.defs Cert.KernelIdeal.defs
  rw [defs₀_same]
  exact eq_of_heq (defs_heq _ _ pcfgs_same _)

/-- The two kernels' host programs agree. -/
theorem main_same : Cert.Kernel.main (F := F) = Cert.KernelIdeal.main (F := F) := rfl

open Cert.Kernel in
/-- Every weakly fair run of the first kernel ends with its arguments unchanged and every counter at zero. -/
theorem kernel_frame [∀ e, Nonempty (Elt F e)] (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_same]
  exact (θ_run (Cert.KernelIdeal.defs (F := F)) _ _).mono (fun _ h => ⟨fun c => (h.1 c).2, h.2⟩)
    (Cert.KernelIdeal.Hand.run_result m ρ)

end Cert.KernelSame

end
-- ==== Proof.KernelIdealArray.lean ====
/-
  The result array after the run: row `2048 k + r` is row `r` of what the second phase computes of block `k` of `all_ts`
  and the prepared weights.
-/
module

public import proofs.«01_k».proof.Proof.KernelIdealResult
public import Idealize.ShloMosaic.Lib.Pipeline.Value
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F] [∀ e, Nonempty (Elt F e)]

/-- Block `k` of `all_ts` at a row and a column is `all_ts` at that row of the block. -/
theorem blk_apply (c : Dev nD) (x : Vec F S16384x256 .f32) (k : Fin 8) (r : Fin 2048) (t : Fin 256) :
    blk c x k (ix2 r t) = x (ix2 ⟨2048 * k.val + r.val, by omega⟩ t) := by
  show x ((slotH k).view.emb (ix2 r t)) = _
  refine congrArg x ?_
  funext a; apply Fin.ext
  match a with
  | ⟨0, _⟩ => show 2048 * k.val + 1 * r.val = 2048 * k.val + r.val; omega
  | ⟨1, _⟩ => show 0 + 1 * t.val = t.val; omega

/-- What the kernel leaves in the result, as a function of `all_ts` and the weights. -/
def kernelOut (c : Dev nD) (x : Vec F S16384x256 .f32) (w : Vec F S1024x256 .f32) : Vec F S16384x1024 .f32 := fun i =>
  k0_pay6 (blk c x ⟨(i 0).val / 2048, by have h : (i 0).val < 16384 := (i 0).isLt; omega⟩) (prepared c x w)
    (ix2 ⟨(i 0).val % 2048, by omega⟩ (i 1))

section
variable (m : (ℓ : Loc nD τ sig) → Buf (Elt F) ℓ) (c : Dev nD)

/-- The block of the result that a point is at: its number less eight, in the first column of blocks. -/
theorem out_index : ∀ t : Fin cfg0.N, win0_1.index t 0 = t.val - 8 ∧ win0_1.index t 1 = 0 := by decide +kernel
/-- The weights' only block is the first. -/
theorem wts_index : win0_0.index t0_0 0 = 0 ∧ win0_0.index t0_0 1 = 0 := by decide +kernel
/-- Each of the last eight points writes its block of the result back. -/
theorem out_flush : ∀ t : Fin cfg0.N, 8 ≤ t.val → (cfg0.win 1).flush t = true := by decide +kernel

/-- The weights' window is the whole array of weights. -/
theorem wts_eq : wts m c = m ((c : Thread nD τ).loc main_arg1) := by
  obtain ⟨e0, e1⟩ := wts_index
  funext j
  show m ((c : Thread nD τ).loc main_arg1) (((cfg0.win 0).blk t0_0).view.emb j) = _
  refine congrArg _ ?_
  funext a; apply Fin.ext
  match a with
  | ⟨0, _⟩ => show win0_0.index t0_0 (0 : Fin 2) * 1024 + 1 * (j 0).val = (j 0).val; omega
  | ⟨1, _⟩ => show win0_0.index t0_0 (1 : Fin 2) * 256 + 1 * (j 1).val = (j 1).val; omega

/-- Element `j` of the output block of point `t` lies in row `2048 (t - 8) + j₀`. -/
theorem out_emb (t : Fin cfg0.N) (j : S2048x1024.Idx) :
    (((cfg0.win 1).blk t).view.emb j 0).val = (t.val - 8) * 2048 + (j 0).val ∧ (((cfg0.win 1).blk t).view.emb j 1).val = (j 1).val := by
  obtain ⟨e0, e1⟩ := out_index t
  constructor
  · show win0_1.index t (0 : Fin 2) * 2048 + 1 * (j 0).val = _; omega
  · show win0_1.index t (1 : Fin 2) * 1024 + 1 * (j 1).val = _; omega

/-- What a point of the second phase writes back is its block of the kernel's result. -/
theorem flushed_eq (t : Fin cfg0.N) (hf : (cfg0.win 1).flush t = true) :
    (dats m 0 c).flushed 1 t
      = ((cfg0.win 1).blk t).view.read (Elt F) (kernelOut c (m ((c : Thread nD τ).loc main_arg0)) (m ((c : Thread nD τ).loc main_arg1))) := by
  have h8 : 8 ≤ t.val := by
    by_contra h
    rw [(idle_first t (by omega)).2] at hf
    exact absurd hf (by decide)
  have hN : t.val < 16 := Nat.lt_of_lt_of_eq t.isLt points
  funext j
  obtain ⟨e0, e1⟩ := out_emb t j
  have hj : (j 0).val < 2048 := (j 0).isLt
  show outBlk m c t.val j = kernelOut c _ _ (((cfg0.win 1).blk t).view.emb j)
  unfold outBlk kernelOut
  rw [wts_eq]
  have hk : (⟨(t.val - 8) % 8, Nat.mod_lt _ (by decide)⟩ : Fin 8)
      = ⟨(((cfg0.win 1).blk t).view.emb j 0).val / 2048, by have h : (((cfg0.win 1).blk t).view.emb j 0).val < 16384 := (((cfg0.win 1).blk t).view.emb j 0).isLt; omega⟩ :=
    Fin.ext (by show (t.val - 8) % 8 = (((cfg0.win 1).blk t).view.emb j 0).val / 2048; omega)
  have hj' : j = ix2 ⟨(((cfg0.win 1).blk t).view.emb j 0).val % 2048, by omega⟩ (((cfg0.win 1).blk t).view.emb j 1) := by
    funext a; apply Fin.ext
    match a with
    | ⟨0, _⟩ => show (j 0).val = (((cfg0.win 1).blk t).view.emb j 0).val % 2048; omega
    | ⟨1, _⟩ => exact e1.symm
  rw [hk]
  exact congrArg _ hj'

/-- Every element of the result is in a block that is written back. -/
theorem covered (i : S16384x1024.Idx) : ∃ t : Fin cfg0.N, (cfg0.win 1).flush t = true ∧ i ∈ ((cfg0.win 1).blk t).view.set := by
  have h0 : (i 0).val < 16384 := (i 0).isLt
  obtain ⟨t, ht⟩ : ∃ t : Fin cfg0.N, t.val = 8 + (i 0).val / 2048 :=
    ⟨⟨8 + (i 0).val / 2048, Nat.lt_of_lt_of_eq (by omega) points.symm⟩, rfl⟩
  refine ⟨t, out_flush t (by omega), ?_⟩
  have h := ((cfg0.win 1).blk t).view.emb_mem_set (ix2 (⟨(i 0).val % 2048, by omega⟩ : Fin 2048) (i 1) : S2048x1024.Idx)
  have e := out_emb t (ix2 (⟨(i 0).val % 2048, by omega⟩ : Fin 2048) (i 1) : S2048x1024.Idx)
  have hi : ((cfg0.win 1).blk t).view.emb
      (ix2 (⟨(i 0).val % 2048, by omega⟩ : Fin 2048) (i 1) : S2048x1024.Idx) = i := by
    funext a; apply Fin.ext
    match a with
    | ⟨0, _⟩ => refine e.1.trans ?_; show (t.val - 8) * 2048 + (i 0).val % 2048 = (i 0).val; omega
    | ⟨1, _⟩ => exact e.2
  rwa [hi] at h

/-- So the result array ends holding the kernel's function of the arguments. -/
theorem array_eq :
    (dats m 0 c).arrAt 1 cfg0.N = kernelOut c (m ((c : Thread nD τ).loc main_arg0)) (m ((c : Thread nD τ).loc main_arg1)) :=
  (dats m 0 c).arrAt_eq_of_cover 1 _ (flushed_eq m c) covered

end

end Cert.KernelIdeal.Hand

end
-- ==== Proof.SoftmaxMath.lean ====
/-
  The mathematics: over the extended reals, dividing by the norms and multiplying by their reciprocal roots agree where no
  norm is zero, every logit is then a real number, and a softmax of real numbers is unchanged by a common shift.
-/
module

public import Idealize.ShloMosaic.PureOps.Ideal
public import Idealize.ShloMosaic.PureOps.Ideal.Laws
public import Idealize.ShloMosaic.Lib.Pointwise

@[expose] public section

noncomputable section

namespace Cert.SoftmaxMath

open Idealize.ShloMosaic

/-- A sum of reals, read as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A square is nowhere negative, the infinities included. -/
theorem mul_self_nonneg (x : EReal) : 0 ≤ x * x := by
  induction x with
  | bot => simp
  | top => simp
  | coe r => rw [← EReal.coe_mul]; exact_mod_cast _root_.mul_self_nonneg r

/-- A number whose square is not infinite is real. -/
theorem real_of_mul_self {x : EReal} (h : x * x ≠ ⊤) : ∃ r : ℝ, x = r := by
  induction x with
  | bot => simp at h
  | top => simp at h
  | coe r => exact ⟨r, rfl⟩

/-- Where a sum of squares is not infinite, every summand's root is real. -/
theorem real_of_sum {ι : Type} [Fintype ι] (f : ι → EReal) (h : ∑ i, f i * f i ≠ ⊤) (i : ι) : ∃ r : ℝ, f i = r := by
  refine real_of_mul_self fun e => h ?_
  have hle : f i * f i ≤ ∑ i, f i * f i :=
    Finset.single_le_sum (f := fun i => f i * f i) (fun j _ => mul_self_nonneg (f j)) (Finset.mem_univ i)
  rw [e] at hle
  exact top_le_iff.mp hle

/-- A positive extended real is infinite or a positive real. -/
theorem pos_cases {x : EReal} (h : 0 < x) : x = ⊤ ∨ ∃ r : ℝ, 0 < r ∧ x = r := by
  induction x with
  | bot => simp at h
  | top => exact .inl rfl
  | coe r => exact .inr ⟨r, by exact_mod_cast h, rfl⟩

/-- Anything over infinity is zero. -/
theorem div_top (x : EReal) : Ideal.div x ⊤ = 0 := by
  unfold Ideal.div; simp

/-- The reciprocal root of a positive real. -/
theorem rsqrt_real {r : ℝ} (h : 0 < r) : Ideal.rsqrt (r : EReal) = (((Real.sqrt r)⁻¹ : ℝ) : EReal) := by
  rw [Ideal.rsqrt_coe, if_neg (not_lt.2 h.le), if_neg h.ne']

/-- Division by the root of a positive real is a product with its reciprocal. -/
theorem div_sqrt_real {r : ℝ} (h : 0 < r) (x : EReal) :
    Ideal.div x (Ideal.sqrt (r : EReal)) = x * (((Real.sqrt r)⁻¹ : ℝ) : EReal) := by
  rw [Ideal.sqrt_coe, if_neg (not_lt.2 h.le), Ideal.div_coe (Real.sqrt_pos.2 h).ne', one_div]

/-- One term of a logit: `x` over its column's norm, times a real weight, is a real number, and so scaled by `ρ` it is the
    product of `x` with the weight scaled first by `ρ` and then by the reciprocal of the column's norm. -/
theorem term_eq {C x : EReal} (hC : 0 < C) (hx : C ≠ ⊤ → ∃ r : ℝ, x = r) (w ρ : ℝ) :
    ∃ y : ℝ, Ideal.div x (Ideal.sqrt C) * (w : EReal) = y ∧ x * (((w : EReal) * (ρ : EReal)) * Ideal.rsqrt C) = ((y * ρ : ℝ) : EReal) := by
  rcases pos_cases hC with rfl | ⟨r, hr, rfl⟩
  · refine ⟨0, ?_, ?_⟩
    · rw [Ideal.sqrt_top, div_top]; simp
    · rw [Ideal.rsqrt_top]; simp
  · obtain ⟨a, rfl⟩ := hx (EReal.coe_ne_top r)
    refine ⟨a * (Real.sqrt r)⁻¹ * w, ?_, ?_⟩
    · rw [div_sqrt_real hr]; push_cast; rfl
    · rw [rsqrt_real hr, ← EReal.coe_mul, ← EReal.coe_mul, ← EReal.coe_mul]
      exact congrArg _ (by ring)

/-- THE LOGIT: where neither a column of `x` nor a row of `w` has norm zero, the kernel's product of `x` with the scaled
    weights and the reference's quotient of products are one real number. -/
theorem logit_eq {ι τ : Type} [Fintype ι] [Fintype τ] (x : ι → τ → EReal) (w : τ → EReal)
    (hC : ∀ t, 0 < ∑ i, x i t * x i t) (hR : 0 < ∑ t, w t * w t) (i : ι) :
    ∃ b : ℝ, ∑ t, x i t * ((w t * Ideal.rsqrt (∑ t, w t * w t)) * Ideal.rsqrt (∑ i, x i t * x i t)) = b
      ∧ Ideal.div (∑ t, Ideal.div (x i t) (Ideal.sqrt (∑ i, x i t * x i t)) * w t) (Ideal.sqrt (∑ t, w t * w t)) = b := by
  rcases pos_cases hR with e | ⟨s, hs, e⟩
  · refine ⟨0, ?_, ?_⟩
    · rw [e, Ideal.rsqrt_top]; simp
    · rw [e, Ideal.sqrt_top, div_top]; rfl
  · have hw := real_of_sum w (by rw [e]; exact EReal.coe_ne_top s)
    choose v hv using hw
    have ht := fun t => term_eq (hC t) (fun h => real_of_sum (fun i => x i t) h i) (v t) (Real.sqrt s)⁻¹
    choose y hy hz using ht
    refine ⟨∑ t, y t * (Real.sqrt s)⁻¹, ?_, ?_⟩
    · rw [e, rsqrt_real hs]
      simp only [hv, hz]
      exact (coe_sum Finset.univ fun t => y t * (Real.sqrt s)⁻¹).symm
    · rw [e, div_sqrt_real hs]
      simp only [hv, hy]
      rw [← coe_sum, ← EReal.coe_mul, Finset.sum_mul]

/-- The greatest of finitely many real numbers, folded from minus infinity, is a real number. -/
theorem fold_max_real {ν : Type} [Fintype ν] [Nonempty ν] (b : ν → ℝ) :
    ∃ μ : ℝ, max ⊥ (Finset.fold max (⊥ : EReal) (fun n => (b n : EReal)) Finset.univ) = μ := by
  have hlt : Finset.fold max (⊥ : EReal) (fun n => (b n : EReal)) Finset.univ < ⊤ :=
    (Finset.fold_max_lt _).2 ⟨bot_lt_top, fun n _ => EReal.coe_lt_top (b n)⟩
  have hgt : ⊥ < Finset.fold max (⊥ : EReal) (fun n => (b n : EReal)) Finset.univ :=
    (Finset.lt_fold_max _).2 (.inr ⟨Classical.arbitrary ν, Finset.mem_univ _, EReal.bot_lt_coe _⟩)
  rw [max_eq_right bot_le]
  exact ⟨_, (EReal.coe_toReal hlt.ne hgt.ne').symm⟩

/-- THE SOFTMAX: of real numbers, the exponential times the reciprocal of the exponentials' sum is the shifted exponential
    over the sum of the shifted ones, whatever the shift. -/
theorem softmax_shift {ν : Type} [Fintype ν] [Nonempty ν] (b : ν → ℝ) (μ : ℝ) (n : ν) :
    Ideal.exp (b n : EReal) * Ideal.div 1 (∑ n', Ideal.exp (b n' : EReal))
      = Ideal.div (Ideal.exp ((b n : EReal) - (μ : EReal))) (∑ n', Ideal.exp ((b n' : EReal) - (μ : EReal))) := by
  have h1 : 0 < ∑ n', Real.exp (b n') := Finset.sum_pos (fun _ _ => Real.exp_pos _) Finset.univ_nonempty
  have h2 : 0 < ∑ n', Real.exp (b n' - μ) := Finset.sum_pos (fun _ _ => Real.exp_pos _) Finset.univ_nonempty
  have h3 : ∑ n', Real.exp (b n' - μ) = (∑ n', Real.exp (b n')) / Real.exp μ := by
    rw [Finset.sum_div]; exact Finset.sum_congr rfl fun n' _ => Real.exp_sub _ _
  simp only [← EReal.coe_sub, Ideal.exp_coe]
  rw [← coe_sum, ← coe_sum, Ideal.div_coe h1.ne', Ideal.div_coe h2.ne', one_mul, ← EReal.coe_mul, ← EReal.coe_mul, h3,
    Real.exp_sub]
  refine congrArg _ ?_
  have := (Real.exp_pos μ).ne'
  field_simp

end Cert.SoftmaxMath

end
-- ==== Proof.KernelIdealPoint.lean ====
/-
  The kernel's arithmetic over the extended reals, element by element.
-/
module

public import proofs.«01_k».proof.Proof.KernelIdealArray
public import proofs.«01_k».proof.Proof.SoftmaxMath

@[expose] public section

set_option maxRecDepth 16384

noncomputable section

namespace Cert.KernelIdeal.Hand

open Cert.KernelIdeal Cert.KernelIdeal.Gen
open Idealize.ShloMosaic Idealize.ShloMosaic.TcCoe

/-- The weights over their row norms, as the first point leaves them. -/
theorem pay1_apply (w : Vec Ideal S1024x256 .f32) (n : Fin 1024) (t : Fin 256) :
    k0_pay1 (F := Ideal) w (ix2 n t) = w (ix2 n t) * Ideal.rsqrt (∑ k : Fin 256, w (ix2 n k) * w (ix2 n k)) := by
  pointwise [k0_pay1]

/-- The first block's sums of squares by column. -/
theorem pay3_apply (b : Vec Ideal S2048x256 .f32) (t : Fin 256) :
    k0_pay3 (F := Ideal) b (ix2 0 t) = ∑ r : Fin 2048, b (ix2 r t) * b (ix2 r t) := by
  pointwise [k0_pay3, k0_pay2]

/-- A further block's sums of squares, added to what came before. -/
theorem pay4_apply (b : Vec Ideal S2048x256 .f32) (a : Vec Ideal S1x256 .f32) (t : Fin 256) :
    k0_pay4 (F := Ideal) b a (ix2 0 t) = a (ix2 0 t) + ∑ r : Fin 2048, b (ix2 r t) * b (ix2 r t) := by
  pointwise [k0_pay4, k0_pay2]

/-- The prepared weights: each column times the reciprocal root of that column's sum of squares. -/
theorem pay5_apply (a : Vec Ideal S1x256 .f32) (w : Vec Ideal S1024x256 .f32) (n : Fin 1024) (t : Fin 256) :
    k0_pay5 (F := Ideal) a w (ix2 n t) = w (ix2 n t) * Ideal.rsqrt (a (ix2 0 t)) := by
  pointwise [k0_pay5]

/-- One block of the result: the exponentials of the products, times the reciprocal of their sum along the row. -/
theorem pay6_apply (b : Vec Ideal S2048x256 .f32) (p : Vec Ideal S1024x256 .bf16) (r : Fin 2048) (n : Fin 1024) :
    k0_pay6 (F := Ideal) b p (ix2 r n)
      = Ideal.exp (∑ t : Fin 256, b (ix2 r t) * p (ix2 n t))
        * Ideal.div 1 (∑ n' : Fin 1024, Ideal.exp (∑ t : Fin 256, b (ix2 r t) * p (ix2 n' t))) := by
  pointwise [k0_pay6]

/-- The accumulator after block `n` holds, by column, the sums of squares over the first `n + 1` blocks. -/
theorem accN_apply (c : Dev nD) (x : Vec Ideal S16384x256 .f32) (t : Fin 256) : ∀ (n : ℕ) (h : n < 8),
    accN (F := Ideal) c x n h (ix2 0 t)
      = ∑ k : Fin (n + 1), ∑ r : Fin 2048, blk c x ⟨k.val, by omega⟩ (ix2 r t) * blk c x ⟨k.val, by omega⟩ (ix2 r t)
  | 0, h => by
    unfold accN
    rw [pay3_apply, Fin.sum_univ_one]; rfl
  | n + 1, h => by
    unfold accN
    rw [pay4_apply, accN_apply c x t n, Fin.sum_univ_castSucc (n := n + 1)]; rfl

/-- After the last block it holds the sums of squares of the whole columns. -/
theorem acc_total (c : Dev nD) (x : Vec Ideal S16384x256 .f32) (t : Fin 256) :
    accN (F := Ideal) c x 7 (by decide) (ix2 0 t) = ∑ i : Fin 16384, x (ix2 i t) * x (ix2 i t) := by
  rw [Fin.sum_univ_tiles 8 2048 (by decide) (fun i : Fin 16384 => x (ix2 i t) * x (ix2 i t))]
  refine (accN_apply c x t 7 (by decide)).trans ?_
  refine Finset.sum_congr rfl fun k _ => Finset.sum_congr rfl fun r _ => ?_
  rw [blk_apply]
  have e : (⟨2048 * k.val + r.val, by omega⟩ : Fin 16384) = ⟨k.val * 2048 + r.val, by omega⟩ := Fin.ext (by show 2048 * k.val + r.val = k.val * 2048 + r.val; omega)
  rw [e]

/-- The kernel's logit at a row of `all_ts` and a row of the weights. -/
def logit (x : Vec Ideal S16384x256 .f32) (w : Vec Ideal S1024x256 .f32) (i : Fin 16384) (n : Fin 1024) : EReal :=
  ∑ t : Fin 256, x (ix2 i t) * ((w (ix2 n t) * Ideal.rsqrt (∑ t : Fin 256, w (ix2 n t) * w (ix2 n t)))
    * Ideal.rsqrt (∑ i : Fin 16384, x (ix2 i t) * x (ix2 i t)))

/-- The prepared weights after the first phase. -/
theorem prepared_apply (c : Dev nD) (x : Vec Ideal S16384x256 .f32) (w : Vec Ideal S1024x256 .f32) (n : Fin 1024) (t : Fin 256) :
    prepared (F := Ideal) c x w (ix2 n t) = (w (ix2 n t) * Ideal.rsqrt (∑ t : Fin 256, w (ix2 n t) * w (ix2 n t)))
      * Ideal.rsqrt (∑ i : Fin 16384, x (ix2 i t) * x (ix2 i t)) := by
  unfold prepared
  rw [pay5_apply, pay1_apply, acc_total]

/-- The kernel's result: the exponential of the logit times the reciprocal of the row's sum of exponentials. -/
theorem kernelOut_apply (c : Dev nD) (x : Vec Ideal S16384x256 .f32) (w : Vec Ideal S1024x256 .f32) (i : Fin 16384) (n : Fin 1024) :
    kernelOut (F := Ideal) c x w (ix2 i n)
      = Ideal.exp (logit x w i n) * Ideal.div 1 (∑ n' : Fin 1024, Ideal.exp (logit x w i n')) := by
  have hl : ∀ n' : Fin 1024, (∑ t : Fin 256, blk c x ⟨i.val / 2048, by omega⟩ (ix2 ⟨i.val % 2048, by omega⟩ t) * prepared (F := Ideal) c x w (ix2 n' t))
      = logit x w i n' := fun n' => Finset.sum_congr rfl fun t _ => by
    rw [blk_apply, prepared_apply]
    have e : (⟨2048 * (i.val / 2048) + i.val % 2048, by omega⟩ : Fin 16384) = i := Fin.ext (Nat.div_add_mod _ _)
    rw [e]
  refine (pay6_apply (blk c x ⟨i.val / 2048, by omega⟩) (prepared c x w) ⟨i.val % 2048, by omega⟩ n).trans ?_
  simp only [hl]

end Cert.KernelIdeal.Hand

end
-- ==== Proof.ReferencePoint.lean ====
/-
  The reference's arithmetic over the extended reals, element by element.
-/
module

public import proofs.«01_k».proof.Proof.Gen.ReferenceIdeal.Run
public import proofs.«01_k».proof.Defs
public import proofs.«01_k».proof.Proof.Gen.Pre_nonzero_norms
public import proofs.«01_k».proof.Proof.SoftmaxMath
public import Idealize.ShloMosaic.Lib.Pointwise
public import Idealize.ShloMosaic.Lib.ReduceAll

@[expose] public section

set_option maxRecDepth 16384

noncomputable section

namespace Cert.ReferenceIdeal.Hand

open Cert.ReferenceIdeal Cert.ReferenceIdeal.Gen
open Idealize.ShloMosaic Idealize.ShloMosaic.TcCoe

/-- The reference's logit at a row of `all_ts` and a row of `W`: the product of the normalized rows over the norm of `W`'s. -/
def logit (x : Vec Ideal S16384x256 .f32) (w : Vec Ideal S1024x256 .f32) (i : Fin 16384) (n : Fin 1024) : EReal :=
  Ideal.div (∑ t : Fin 256, Ideal.div (x (ix2 i t)) (Ideal.sqrt (∑ i : Fin 16384, x (ix2 i t) * x (ix2 i t))) * w (ix2 n t))
    (Ideal.sqrt (∑ t : Fin 256, w (ix2 n t) * w (ix2 n t)))

/-- The word that the row's maximum starts from is minus infinity. -/
theorem ofBits_neg_inf : Ideal.ofBits .f32 0xFF800000#32 = ⊥ := by simp [Ideal.ofBits, Ideal.ieee]

/-- The shift of a row: its greatest logit. -/
def shift (x : Vec Ideal S16384x256 .f32) (w : Vec Ideal S1024x256 .f32) (i : Fin 16384) : EReal :=
  max ⊥ (Finset.fold max ⊥ (fun n => logit x w i n) Finset.univ)

/-- The columns' norms. -/
def colNorms (x : FVec Ideal S16384x256 .f32) : FVec Ideal S256 .f32 :=
  Host.sqrt (Host.reduceAdd (mulf x x) (constant S_ .f32 0x00000000#32) reducesTo_S16384x256_S256_d0 h_S_)

/-- The rows' norms. -/
def rowNorms (w : FVec Ideal S1024x256 .f32) : FVec Ideal S1024 .f32 :=
  Host.sqrt (Host.reduceAdd (mulf w w) (constant S_ .f32 0x00000000#32) reducesTo_S1024x256_S1024_d1 h_S_)

/-- An array with each column over its norm. -/
def overCols (x : FVec Ideal S16384x256 .f32) (v : FVec Ideal S256 .f32) : FVec Ideal S16384x256 .f32 :=
  Host.divf x (broadcastInDim S16384x256 ![0, 1] bcast_S1x256_S16384x256_0_1 (broadcastInDim S1x256 ![1] bcast_S256_S1x256_1 v))

/-- The product with the weights' transpose. -/
def product (x : FVec Ideal S16384x256 .f32) (w : FVec Ideal S1024x256 .f32) : FVec Ideal S16384x1024 .f32 :=
  Host.dotGeneral dot_S16384x256_S256x1024_S16384x1024_1_0_0_1_n_n none x (transpose S256x1024 [1, 0] w transposes_S1024x256_S256x1024_1_0)

/-- A product with each column over the norm of its weights. -/
def overRows (p : FVec Ideal S16384x1024 .f32) (v : FVec Ideal S1024 .f32) : FVec Ideal S16384x1024 .f32 :=
  Host.divf p (broadcastInDim S16384x1024 ![0, 1] bcast_S1x1024_S16384x1024_0_1 (broadcastInDim S1x1024 ![1] bcast_S1024_S1x1024_1 v))

/-- The logits as the reference computes them, a whole array. -/
def logits (x : FVec Ideal S16384x256 .f32) (w : FVec Ideal S1024x256 .f32) : FVec Ideal S16384x1024 .f32 :=
  overRows (product (overCols x (colNorms x)) w) (rowNorms w)

/-- A row's greatest element, from the start `v`. -/
def rowMax (L : FVec Ideal S16384x1024 .f32) (v : FVec Ideal S_ .f32) : FVec Ideal S16384 .f32 :=
  Host.reduce FloatOps.maximumf L v reducesTo_S16384x1024_S16384_d1 h_S_

/-- An array with its rows' greatest elements, or the start if that is greater, taken away. -/
def lessMax (L : FVec Ideal S16384x1024 .f32) (v : FVec Ideal S_ .f32) (g : FVec Ideal S16384 .f32) : FVec Ideal S16384x1024 .f32 :=
  subf L (broadcastInDim S16384x1024 ![0, 1] bcast_S16384x1_S16384x1024_0_1 (broadcastInDim S16384x1 ![0] bcast_S16384_S16384x1_0
    (maximumf (broadcastInDim S16384 ![] bcast_S_S16384 v) g)))

/-- The exponentials of an array of logits, each shifted by its row's greatest. -/
def exps (L : FVec Ideal S16384x1024 .f32) : FVec Ideal S16384x1024 .f32 :=
  Host.exp (lessMax L (constant S_ .f32 0xFF800000#32) (rowMax L (constant S_ .f32 0xFF800000#32)))

/-- Exponentials over their row's sum. -/
def shares (E : FVec Ideal S16384x1024 .f32) : FVec Ideal S16384x1024 .f32 :=
  Host.divf E (broadcastInDim S16384x1024 ![0, 1] bcast_S16384x1_S16384x1024_0_1 (broadcastInDim S16384x1 ![0] bcast_S16384_S16384x1_0 (Host.reduceAdd E (constant S_ .f32 0x00000000#32) reducesTo_S16384x1024_S16384_d1 h_S_)))

/-- The columns' norms by element. -/
theorem colNorms_apply (x : FVec Ideal S16384x256 .f32) (t : Fin 256) :
    colNorms x (ix1 t) = Ideal.sqrt (∑ i : Fin 16384, x (ix2 i t) * x (ix2 i t)) := by
  pointwise [colNorms]

/-- The rows' norms by element. -/
theorem rowNorms_apply (w : FVec Ideal S1024x256 .f32) (n : Fin 1024) :
    rowNorms w (ix1 n) = Ideal.sqrt (∑ t : Fin 256, w (ix2 n t) * w (ix2 n t)) := by
  pointwise [rowNorms]

/-- The quotient by the columns' norms, by element. -/
theorem overCols_apply (x : FVec Ideal S16384x256 .f32) (v : FVec Ideal S256 .f32) (i : Fin 16384) (t : Fin 256) :
    overCols x v (ix2 i t) = Ideal.div (x (ix2 i t)) (v (ix1 t)) := by
  pointwise [overCols]

/-- The product by element. -/
theorem product_apply (x : FVec Ideal S16384x256 .f32) (w : FVec Ideal S1024x256 .f32) (i : Fin 16384) (n : Fin 1024) :
    product x w (ix2 i n) = ∑ t : Fin 256, x (ix2 i t) * w (ix2 n t) := by
  pointwise [product]

/-- The quotient by the weights' norms, by element. -/
theorem overRows_apply (p : FVec Ideal S16384x1024 .f32) (v : FVec Ideal S1024 .f32) (i : Fin 16384) (n : Fin 1024) :
    overRows p v (ix2 i n) = Ideal.div (p (ix2 i n)) (v (ix1 n)) := by
  pointwise [overRows]

/-- The logits by element. -/
theorem logits_apply (x : FVec Ideal S16384x256 .f32) (w : FVec Ideal S1024x256 .f32) (i : Fin 16384) (n : Fin 1024) :
    logits x w (ix2 i n) = logit x w i n := by
  simp only [logits, logit, overRows_apply, product_apply, overCols_apply, colNorms_apply, rowNorms_apply]

/-- A row's greatest element, by row. -/
theorem rowMax_apply (L : FVec Ideal S16384x1024 .f32) (v : FVec Ideal S_ .f32) (i : Fin 16384) :
    rowMax L v (ix1 i) = Finset.fold max (v (Shape.Idx.first h_S_)) (fun n : Fin 1024 => L (ix2 i n)) Finset.univ :=
  (Host.reduce_eq_fold FloatOps.maximumf L v reducesTo_S16384x1024_S16384_d1 h_S_ (ix1 i)).trans
    (reducesTo_S16384x1024_S16384_d1.fold_fiber_r2_a1 (ix1 i) _ _ L)

/-- The difference by element. -/
theorem lessMax_apply (L : FVec Ideal S16384x1024 .f32) (v : FVec Ideal S_ .f32) (g : FVec Ideal S16384 .f32) (b : EReal)
    (hv : ∀ j, v j = b) (i : Fin 16384) (n : Fin 1024) :
    lessMax L v g (ix2 i n) = L (ix2 i n) - max b (g (ix1 i)) := by
  pointwise [lessMax, hv]

/-- The shifted exponentials by element. -/
theorem exps_apply (L : FVec Ideal S16384x1024 .f32) (i : Fin 16384) (n : Fin 1024) :
    exps L (ix2 i n) = Ideal.exp (L (ix2 i n) - max ⊥ (Finset.fold max ⊥ (fun n => L (ix2 i n)) Finset.univ)) := by
  have hv : ∀ j, (constant S_ .f32 0xFF800000#32 : FVec Ideal S_ .f32) j = ⊥ := fun _ => ofBits_neg_inf
  refine congrArg Ideal.exp ((lessMax_apply L _ _ ⊥ hv i n).trans ?_)
  rw [rowMax_apply, hv]

/-- The shares by element. -/
theorem shares_apply (E : FVec Ideal S16384x1024 .f32) (i : Fin 16384) (n : Fin 1024) :
    shares E (ix2 i n) = Ideal.div (E (ix2 i n)) (∑ n' : Fin 1024, E (ix2 i n')) := by
  pointwise [shares]

/-- The reference's result is the three steps in turn. -/
theorem res_steps (m : (ℓ : Loc nD τ sig) → Buf (Elt Ideal) ℓ) (c : Dev nD) :
    Value.res_main_v20 m c = shares (exps (logits (m ((c.tc : Thread nD τ).loc main_arg0)) (m ((c.tc : Thread nD τ).loc main_arg1)))) := by
  unfold Value.res_main_v20 shares exps lessMax rowMax logits overRows product overCols colNorms rowNorms
  rfl

/-- The three steps by element: the softmax of the row's logits. -/
theorem steps_apply (x : FVec Ideal S16384x256 .f32) (w : FVec Ideal S1024x256 .f32) (i : Fin 16384) (n : Fin 1024) :
    shares (exps (logits x w)) (ix2 i n)
      = Ideal.div (Ideal.exp (logit x w i n - shift x w i)) (∑ n' : Fin 1024, Ideal.exp (logit x w i n' - shift x w i)) := by
  simp only [shares_apply, exps_apply, logits_apply, shift]

/-- What the precondition says: no column of `all_ts` and no row of `W` has a sum of squares of zero. -/
theorem pre_apply (x : FVec Ideal Cert.Pre_nonzero_norms.S16384x256 .f32) (w : FVec Ideal Cert.Pre_nonzero_norms.S1024x256 .f32)
    (a : FVec Ideal Cert.Pre_nonzero_norms.S1024 .f32) (b : IVec Cert.Pre_nonzero_norms.S_ 32)
    (h : Cert.Pre_nonzero_norms.fn (F := Ideal) x w a b = fun _ => 1#1) :
    (∀ t : Fin 256, 0 < ∑ i : Fin 16384, x (ix2 i t) * x (ix2 i t)) ∧ (∀ n : Fin 1024, 0 < ∑ t : Fin 256, w (ix2 n t) * w (ix2 n t)) := by
  have h0 := congrFun h (fun a => a.elim0)
  unfold Cert.Pre_nonzero_norms.fn at h0
  obtain ⟨h1, h2⟩ := IntOp.andi_eq_one.1 h0
  haveI : Subsingleton Cert.Pre_nonzero_norms.S_.Idx := ⟨fun _ _ => funext fun a => a.elim0⟩
  constructor
  · intro t
    have h3 := Host.reduce_andi_all _ _ _ _ _ h1 (ix1 t)
    pointwise at h3
    exact (Ideal.cmp_ogt_eq_one _ _).1 h3
  · intro n
    have h3 := Host.reduce_andi_all _ _ _ _ _ h2 (ix1 n)
    pointwise at h3
    exact (Ideal.cmp_ogt_eq_one _ _).1 h3

end Cert.ReferenceIdeal.Hand

end
-- ==== Proof.Equal.lean ====
/-
  The kernel's result and the reference's are equal where no norm is zero.
-/
module

public import proofs.«01_k».proof.Proof.KernelIdealPoint
public import proofs.«01_k».proof.Proof.ReferencePoint

@[expose] public section

noncomputable section

namespace Cert.Equal

open Idealize.ShloMosaic Idealize.ShloMosaic.TcCoe

/-- Where no column of `all_ts` and no row of `W` has a sum of squares of zero, the two programs' logits are one real. -/
theorem logits_real (x : Vec Ideal Cert.KernelIdeal.S16384x256 .f32) (w : Vec Ideal Cert.KernelIdeal.S1024x256 .f32)
    (hC : ∀ t : Fin 256, 0 < ∑ i : Fin 16384, x (ix2 i t) * x (ix2 i t))
    (hR : ∀ n : Fin 1024, 0 < ∑ t : Fin 256, w (ix2 n t) * w (ix2 n t)) (i : Fin 16384) (n : Fin 1024) :
    ∃ b : ℝ, Cert.KernelIdeal.Hand.logit x w i n = b ∧ Cert.ReferenceIdeal.Hand.logit x w i n = b :=
  Cert.SoftmaxMath.logit_eq (fun (i : Fin 16384) (t : Fin 256) => x (ix2 i t)) (fun t : Fin 256 => w (ix2 n t)) hC (hR n) i

/-- The two results are equal element by element. -/
theorem point (c : Dev Cert.KernelIdeal.nD) (x : Vec Ideal Cert.KernelIdeal.S16384x256 .f32) (w : Vec Ideal Cert.KernelIdeal.S1024x256 .f32)
    (hC : ∀ t : Fin 256, 0 < ∑ i : Fin 16384, x (ix2 i t) * x (ix2 i t))
    (hR : ∀ n : Fin 1024, 0 < ∑ t : Fin 256, w (ix2 n t) * w (ix2 n t)) (i : Fin 16384) (n : Fin 1024) :
    Cert.KernelIdeal.Hand.kernelOut (F := Ideal) c x w (ix2 i n)
      = Cert.ReferenceIdeal.Hand.shares (Cert.ReferenceIdeal.Hand.exps (Cert.ReferenceIdeal.Hand.logits x w)) (ix2 i n) := by
  choose b hk hr using logits_real x w hC hR i
  obtain ⟨μ, hμ⟩ := Cert.SoftmaxMath.fold_max_real b
  rw [Cert.KernelIdeal.Hand.kernelOut_apply, Cert.ReferenceIdeal.Hand.steps_apply]
  have hs : Cert.ReferenceIdeal.Hand.shift x w i = μ := by
    unfold Cert.ReferenceIdeal.Hand.shift
    simp only [hr]
    exact hμ
  simp only [hs, hk, hr]
  exact Cert.SoftmaxMath.softmax_shift b μ n

/-- The two results are equal as arrays. -/
theorem arrays (c : Dev Cert.KernelIdeal.nD) (x : Vec Ideal Cert.KernelIdeal.S16384x256 .f32) (w : Vec Ideal Cert.KernelIdeal.S1024x256 .f32)
    (hC : ∀ t : Fin 256, 0 < ∑ i : Fin 16384, x (ix2 i t) * x (ix2 i t))
    (hR : ∀ n : Fin 1024, 0 < ∑ t : Fin 256, w (ix2 n t) * w (ix2 n t)) :
    Cert.KernelIdeal.Hand.kernelOut (F := Ideal) c x w
      = Cert.ReferenceIdeal.Hand.shares (Cert.ReferenceIdeal.Hand.exps (Cert.ReferenceIdeal.Hand.logits x w)) := by
  funext j
  have e : j = ix2 (j 0) (j 1) := by
    funext a
    match a with
    | ⟨0, _⟩ => rfl
    | ⟨1, _⟩ => rfl
  rw [e]
  exact point c x w hC hR (j 0) (j 1)

/-- The algebraic claim: both programs end, with the same array in the result and their arguments as they were. -/
theorem algebraic : Cert.algebraic_KernelIdeal_ReferenceIdeal_pre_nonzero_norms := by
  intro m g m' g' hpre harg
  have hp := fun c => Cert.ReferenceIdeal.Hand.pre_apply _ _ _ _ (hpre c)
  refine ⟨fun c => Cert.KernelIdeal.Hand.kernelOut (F := Ideal) c
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run _ _ _).mono (fun _ h c => ?_) (Cert.KernelIdeal.Hand.run_result m g)
    exact ⟨(h.1 c).1.trans (Cert.KernelIdeal.Hand.array_eq m c), (h.1 c).2⟩
  · refine (θ_run _ _ _).mono (fun _ h c => ?_) (Cert.ReferenceIdeal.Value.run m' g')
    refine ⟨(h c).1.trans ((Cert.ReferenceIdeal.Hand.res_steps m' c).trans ?_), (h c).2⟩
    rw [(harg c).1, (harg c).2.1]
    exact (arrays c _ _ (hp c).1 (hp c).2).symm

end Cert.Equal

end
-- ==== Proof.lean ====
module

public import proofs.«01_k».proof.Proof.Gen.Pre_nonzero_norms
public import proofs.«01_k».proof.Proof.Gen.ReferenceIdeal.Run
public import proofs.«01_k».proof.Proof.KernelSame
public import proofs.«01_k».proof.Proof.Equal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The claims of this certificate: the three frames, the idealized programs' also under the precondition; that the
    idealized kernel is the kernel's own text; and that the idealized kernel and reference end with equal results. -/
theorem claim : Cert.Claim := ⟨Cert.Kernel.Gen.facts, Cert.KernelIdeal.Gen.facts, Cert.ReferenceIdeal.Gen.facts, Cert.Pre_nonzero_norms.Gen.facts,
  fun m g _ => Cert.KernelSame.kernel_frame m g,
  fun m g _ => (θ_run _ _ _).mono (fun _ h => ⟨fun c => (h.1 c).2, h.2⟩) (Cert.KernelIdeal.Hand.run_result m g),
  fun m g _ => (θ_run _ _ _).mono (fun _ h => ⟨fun c => (h.1 c).2, h.2⟩) (Cert.KernelIdeal.Hand.run_result m g),
  fun m g _ => (θ_run _ _ _).mono (fun r h => ⟨fun c => (h c).2, sem_eq_zero_of_no_sems (by decide) r.2⟩)
    (Cert.ReferenceIdeal.Value.run m g),
  fun m g _ => (θ_run _ _ _).mono (fun r h => ⟨fun c => (h c).2, sem_eq_zero_of_no_sems (by decide) r.2⟩)
    (Cert.ReferenceIdeal.Value.run m g),
  trivial, Cert.Equal.algebraic⟩

end Cert.Proof

end
